-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_2)) (v2 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_2) = v1 c
          ∧ r.2.mem ((c.tc : Thread Cert.KernelIdeal.nD Cert.KernelIdeal.τ).loc Cert.KernelIdeal.main_v2_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_12) = v0 c
          ∧ r.2.mem ((c.tc : Thread Cert.ReferenceIdeal.nD Cert.ReferenceIdeal.τ).loc Cert.ReferenceIdeal.main_v3_10) = v1 c
          ∧ r.2.mem ((c.tc : Thread Cert.ReferenceIdeal.nD Cert.ReferenceIdeal.τ).loc Cert.ReferenceIdeal.main_v3_11) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x64x512 : Shape := ⟨3, ![512, 64, 512]⟩
abbrev S512x1024 : Shape := ⟨2, ![512, 1024]⟩
abbrev S512 : Shape := ⟨1, ![512]⟩
abbrev S2048 : Shape := ⟨1, ![2048]⟩
abbrev S1x2048 : Shape := ⟨2, ![1, 2048]⟩
abbrev S64x512 : Shape := ⟨2, ![64, 512]⟩
abbrev S16x64x512 : Shape := ⟨3, ![16, 64, 512]⟩
abbrev S512x2048 : Shape := ⟨2, ![512, 2048]⟩
abbrev S1024x2048 : Shape := ⟨2, ![1024, 2048]⟩
abbrev S512x512 : Shape := ⟨2, ![512, 512]⟩
abbrev S1024x512 : Shape := ⟨2, ![1024, 512]⟩
abbrev S1x512 : Shape := ⟨2, ![1, 512]⟩
abbrev S1x64x512 : Shape := ⟨3, ![1, 64, 512]⟩

abbrev nBuf : Space → Nat
  | .hbm => 14
  | .vmem => 15
  | .smem => 0
  | _ => 0

abbrev bufTy : (tb : Table) → Fin (tcTables nBuf tb) → BufTy
  | .hbm, ⟨0, _⟩ => ⟨S512x64x512, .f32⟩
  | .hbm, ⟨1, _⟩ => ⟨S512x1024, .f32⟩
  | .hbm, ⟨2, _⟩ => ⟨S512, .f32⟩
  | .hbm, ⟨3, _⟩ => ⟨S512x1024, .f32⟩
  | .hbm, ⟨4, _⟩ => ⟨S512, .f32⟩
  | .hbm, ⟨5, _⟩ => ⟨S512x1024, .f32⟩
  | .hbm, ⟨6, _⟩ => ⟨S512, .f32⟩
  | .hbm, ⟨7, _⟩ => ⟨S512x1024, .f32⟩
  | .hbm, ⟨8, _⟩ => ⟨S512, .f32⟩
  | .hbm, ⟨9, _⟩ => ⟨S2048, .f32⟩
  | .hbm, ⟨10, _⟩ => ⟨S1x2048, .f32⟩
  | .hbm, ⟨11, _⟩ => ⟨S512x64x512, .f32⟩
  | .hbm, ⟨12, _⟩ => ⟨S64x512, .f32⟩
  | .hbm, ⟨13, _⟩ => ⟨S64x512, .f32⟩
  | .local _ .vmem, ⟨0, _⟩ => ⟨S16x64x512, .f32⟩
  | .local _ .vmem, ⟨1, _⟩ => ⟨S16x64x512, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x2048, .f32⟩
  | .local _ .vmem, ⟨7, _⟩ => ⟨S16x64x512, .f32⟩
  | .local _ .vmem, ⟨8, _⟩ => ⟨S16x64x512, .f32⟩
  | .local _ .vmem, ⟨9, _⟩ => ⟨S64x512, .f32⟩
  | .local _ .vmem, ⟨10, _⟩ => ⟨S64x512, .f32⟩
  | .local _ .vmem, ⟨11, _⟩ => ⟨S64x512, .f32⟩
  | .local _ .vmem, ⟨12, _⟩ => ⟨S64x512, .f32⟩
  | .local _ .vmem, ⟨13, _⟩ => ⟨S512x2048, .bf16⟩
  | .local _ .vmem, ⟨14, _⟩ => ⟨S1024x2048, .f32⟩
  | _, _ => ⟨S512x64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2_0 : Ref sig .tc := ⟨.hbm, 11, rfl⟩
abbrev main_v2_1 : Ref sig .tc := ⟨.hbm, 12, rfl⟩
abbrev main_v2_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg8_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem8_0 : DmaSem sig := 10

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v805 : BitVec 1 := Scalar.cmpi .eq arg0 c31_i32
  let v806 : BitVec 32 := Scalar.extui v805
  let c0_i32_518 : BitVec 32 := 0#32
  let v807 : BitVec 1 := Scalar.cmpi .ne v806 c0_i32_518
  v807

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S16x64x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S64x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S512x64x512 : Shape := ⟨3, ![512, 64, 512]⟩
abbrev S512x1024 : Shape := ⟨2, ![512, 1024]⟩
abbrev S512 : Shape := ⟨1, ![512]⟩
abbrev S_ : Shape := ⟨0, ![]⟩
abbrev S64x512 : Shape := ⟨2, ![64, 512]⟩
abbrev S1x64x512 : Shape := ⟨3, ![1, 64, 512]⟩
abbrev S64x1024 : Shape := ⟨2, ![64, 1024]⟩
abbrev S1024x512 : Shape := ⟨2, ![1024, 512]⟩
abbrev S1x512 : Shape := ⟨2, ![1, 512]⟩

abbrev nBuf : Space → Nat
  | .hbm => 92
  | .vmem => 0
  | .smem => 0
  | _ => 0

abbrev bufTy : (tb : Table) → Fin (tcTables nBuf tb) → BufTy
  | .hbm, ⟨0, _⟩ => ⟨S512x64x512, .f32⟩
  | .hbm, ⟨1, _⟩ => ⟨S512x1024, .f32⟩
  | .hbm, ⟨2, _⟩ => ⟨S512, .f32⟩
  | .hbm, ⟨3, _⟩ => ⟨S512x1024, .f32⟩
  | .hbm, ⟨4, _⟩ => ⟨S512, .f32⟩
  | .hbm, ⟨5, _⟩ => ⟨S512x1024, .f32⟩
  | .hbm, ⟨6, _⟩ => ⟨S512, .f32⟩
  | .hbm, ⟨7, _⟩ => ⟨S512x1024, .f32⟩
  | .hbm, ⟨8, _⟩ => ⟨S512, .f32⟩
  | .hbm, ⟨9, _⟩ => ⟨S_, .f32⟩
  | .hbm, ⟨10, _⟩ => ⟨S64x512, .f32⟩
  | .hbm, ⟨11, _⟩ => ⟨S_, .f32⟩
  | .hbm, ⟨12, _⟩ => ⟨S64x512, .f32⟩
  | .hbm, ⟨13, _⟩ => ⟨S_, .f32⟩
  | .hbm, ⟨14, _⟩ => ⟨S512x64x512, .f32⟩
  | .hbm, ⟨15, _⟩ => ⟨S_, .i32⟩
  | .hbm, ⟨16, _⟩ => ⟨S512x64x512, .f32⟩
  | .hbm, ⟨17, _⟩ => ⟨S512x1024, .f32⟩
  | .hbm, ⟨18, _⟩ => ⟨S512, .f32⟩
  | .hbm, ⟨19, _⟩ => ⟨S512x1024, .f32⟩
  | .hbm, ⟨20, _⟩ => ⟨S512, .f32⟩
  | .hbm, ⟨21, _⟩ => ⟨S512x1024, .f32⟩
  | .hbm, ⟨22, _⟩ => ⟨S512, .f32⟩
  | .hbm, ⟨23, _⟩ => ⟨S512x1024, .f32⟩
  | .hbm, ⟨24, _⟩ => ⟨S512, .f32⟩
  | .hbm, ⟨25, _⟩ => ⟨S_, .i32⟩
  | .hbm, ⟨26, _⟩ => ⟨S64x512, .f32⟩
  | .hbm, ⟨27, _⟩ => ⟨S64x512, .f32⟩
  | .hbm, ⟨28, _⟩ => ⟨S512x64x512, .f32⟩
  | .hbm, ⟨29, _⟩ => ⟨S_, .i32⟩
  | .hbm, ⟨30, _⟩ => ⟨S_, .i1⟩
  | .hbm, ⟨31, _⟩ => ⟨S_, .i32⟩
  | .hbm, ⟨32, _⟩ => ⟨S_, .i32⟩
  | .hbm, ⟨33, _⟩ => ⟨S1x64x512, .f32⟩
  | .hbm, ⟨34, _⟩ => ⟨S64x512, .f32⟩
  | .hbm, ⟨35, _⟩ => ⟨S64x1024, .f32⟩
  | .hbm, ⟨36, _⟩ => ⟨S1024x512, .f32⟩
  | .hbm, ⟨37, _⟩ => ⟨S64x512, .f32⟩
  | .hbm, ⟨38, _⟩ => ⟨S1x512, .f32⟩
  | .hbm, ⟨39, _⟩ => ⟨S64x512, .f32⟩
  | .hbm, ⟨40, _⟩ => ⟨S64x512, .f32⟩
  | .hbm, ⟨41, _⟩ => ⟨S64x512, .f32⟩
  | .hbm, ⟨42, _⟩ => ⟨S64x512, .f32⟩
  | .hbm, ⟨43, _⟩ => ⟨S_, .f32⟩
  | .hbm, ⟨44, _⟩ => ⟨S64x512, .f32⟩
  | .hbm, ⟨45, _⟩ => ⟨S64x512, .f32⟩
  | .hbm, ⟨46, _⟩ => ⟨S_, .f32⟩
  | .hbm, ⟨47, _⟩ => ⟨S64x512, .f32⟩
  | .hbm, ⟨48, _⟩ => ⟨S64x512, .f32⟩
  | .hbm, ⟨49, _⟩ => ⟨S1024x512, .f32⟩
  | .hbm, ⟨50, _⟩ => ⟨S64x512, .f32⟩
  | .hbm, ⟨51, _⟩ => ⟨S1x512, .f32⟩
  | .hbm, ⟨52, _⟩ => ⟨S64x512, .f32⟩
  | .hbm, ⟨53, _⟩ => ⟨S64x512, .f32⟩
  | .hbm, ⟨54, _⟩ => ⟨S64x512, .f32⟩
  | .hbm, ⟨55, _⟩ => ⟨S64x512, .f32⟩
  | .hbm, ⟨56, _⟩ => ⟨S_, .f32⟩
  | .hbm, ⟨57, _⟩ => ⟨S64x512, .f32⟩
  | .hbm, ⟨58, _⟩ => ⟨S64x512, .f32⟩
  | .hbm, ⟨59, _⟩ => ⟨S_, .f32⟩
  | .hbm, ⟨60, _⟩ => ⟨S64x512, .f32⟩
  | .hbm, ⟨61, _⟩ => ⟨S64x512, .f32⟩
  | .hbm, ⟨62, _⟩ => ⟨S1024x512, .f32⟩
  | .hbm, ⟨63, _⟩ => ⟨S64x512, .f32⟩
  | .hbm, ⟨64, _⟩ => ⟨S1x512, .f32⟩
  | .hbm, ⟨65, _⟩ => ⟨S64x512, .f32⟩
  | .hbm, ⟨66, _⟩ => ⟨S64x512, .f32⟩
  | .hbm, ⟨67, _⟩ => ⟨S64x512, .f32⟩
  | .hbm, ⟨68, _⟩ => ⟨S1024x512, .f32⟩
  | .hbm, ⟨69, _⟩ => ⟨S64x512, .f32⟩
  | .hbm, ⟨70, _⟩ => ⟨S1x512, .f32⟩
  | .hbm, ⟨71, _⟩ => ⟨S64x512, .f32⟩
  | .hbm, ⟨72, _⟩ => ⟨S64x512, .f32⟩
  | .hbm, ⟨73, _⟩ => ⟨S64x512, .f32⟩
  | .hbm, ⟨74, _⟩ => ⟨S64x512, .f32⟩
  | .hbm, ⟨75, _⟩ => ⟨S_, .f32⟩
  | .hbm, ⟨76, _⟩ => ⟨S64x512, .f32⟩
  | .hbm, ⟨77, _⟩ => ⟨S64x512, .f32⟩
  | .hbm, ⟨78, _⟩ => ⟨S_, .f32⟩
  | .hbm, ⟨79, _⟩ => ⟨S64x512, .f32⟩
  | .hbm, ⟨80, _⟩ => ⟨S64x512, .f32⟩
  | .hbm, ⟨81, _⟩ => ⟨S64x512, .f32⟩
  | .hbm, ⟨82, _⟩ => ⟨S64x512, .f32⟩
  | .hbm, ⟨83, _⟩ => ⟨S64x512, .f32⟩
  | .hbm, ⟨84, _⟩ => ⟨S64x512, .f32⟩
  | .hbm, ⟨85, _⟩ => ⟨S64x512, .f32⟩
  | .hbm, ⟨86, _⟩ => ⟨S1x64x512, .f32⟩
  | .hbm, ⟨87, _⟩ => ⟨S_, .i32⟩
  | .hbm, ⟨88, _⟩ => ⟨S_, .i32⟩
  | .hbm, ⟨89, _⟩ => ⟨S512x64x512, .f32⟩
  | .hbm, ⟨90, _⟩ => ⟨S_, .i32⟩
  | .hbm, ⟨91, _⟩ => ⟨S_, .i32⟩
  | _, _ => ⟨S512x64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_cst_1 : Ref sig .tc := ⟨.hbm, 13, rfl⟩
abbrev main_v2 : Ref sig .tc := ⟨.hbm, 14, rfl⟩
abbrev main_c : Ref sig .tc := ⟨.hbm, 15, rfl⟩
abbrev main_v3_0 : Ref sig .tc := ⟨.hbm, 16, rfl⟩
abbrev main_v3_1 : Ref sig .tc := ⟨.hbm, 17, rfl⟩
abbrev main_v3_2 : Ref sig .tc := ⟨.hbm, 18, rfl⟩
abbrev main_v3_3 : Ref sig .tc := ⟨.hbm, 19, rfl⟩
abbrev main_v3_4 : Ref sig .tc := ⟨.hbm, 20, rfl⟩
abbrev main_v3_5 : Ref sig .tc := ⟨.hbm, 21, rfl⟩
abbrev main_v3_6 : Ref sig .tc := ⟨.hbm, 22, rfl⟩
abbrev main_v3_7 : Ref sig .tc := ⟨.hbm, 23, rfl⟩
abbrev main_v3_8 : Ref sig .tc := ⟨.hbm, 24, rfl⟩
abbrev main_v3_9 : Ref sig .tc := ⟨.hbm, 25, rfl⟩
abbrev main_v3_10 : Ref sig .tc := ⟨.hbm, 26, rfl⟩
abbrev main_v3_11 : Ref sig .tc := ⟨.hbm, 27, rfl⟩
abbrev main_v3_12 : Ref sig .tc := ⟨.hbm, 28, rfl⟩
abbrev main_while0c_c_14 : Ref sig .tc := ⟨.hbm, 29, rfl⟩
abbrev main_while0c_v4 : Ref sig .tc := ⟨.hbm, 30, rfl⟩
abbrev main_while0b_call0_c : Ref sig .tc := ⟨.hbm, 31, rfl⟩
abbrev main_while0b_call0_c_0 : Ref sig .tc := ⟨.hbm, 32, rfl⟩
abbrev main_while0b_call0_v0 : Ref sig .tc := ⟨.hbm, 33, rfl⟩
abbrev main_while0b_v4 : Ref sig .tc := ⟨.hbm, 34, rfl⟩
abbrev main_while0b_v5 : Ref sig .tc := ⟨.hbm, 35, rfl⟩
abbrev main_while0b_v6 : Ref sig .tc := ⟨.hbm, 36, rfl⟩
abbrev main_while0b_v7 : Ref sig .tc := ⟨.hbm, 37, rfl⟩
abbrev main_while0b_v8 : Ref sig .tc := ⟨.hbm, 38, rfl⟩
abbrev main_while0b_v9 : Ref sig .tc := ⟨.hbm, 39, rfl⟩
abbrev main_while0b_v10 : Ref sig .tc := ⟨.hbm, 40, rfl⟩
abbrev main_while0b_v11 : Ref sig .tc := ⟨.hbm, 41, rfl⟩
abbrev main_while0b_v12 : Ref sig .tc := ⟨.hbm, 42, rfl⟩
abbrev main_while0b_cst_14 : Ref sig .tc := ⟨.hbm, 43, rfl⟩
abbrev main_while0b_v13 : Ref sig .tc := ⟨.hbm, 44, rfl⟩
abbrev main_while0b_v14 : Ref sig .tc := ⟨.hbm, 45, rfl⟩
abbrev main_while0b_cst_15 : Ref sig .tc := ⟨.hbm, 46, rfl⟩
abbrev main_while0b_v15 : Ref sig .tc := ⟨.hbm, 47, rfl⟩
abbrev main_while0b_v16 : Ref sig .tc := ⟨.hbm, 48, rfl⟩
abbrev main_while0b_v17 : Ref sig .tc := ⟨.hbm, 49, rfl⟩
abbrev main_while0b_v18 : Ref sig .tc := ⟨.hbm, 50, rfl⟩
abbrev main_while0b_v19 : Ref sig .tc := ⟨.hbm, 51, rfl⟩
abbrev main_while0b_v20 : Ref sig .tc := ⟨.hbm, 52, rfl⟩
abbrev main_while0b_v21 : Ref sig .tc := ⟨.hbm, 53, rfl⟩
abbrev main_while0b_v22 : Ref sig .tc := ⟨.hbm, 54, rfl⟩
abbrev main_while0b_v23 : Ref sig .tc := ⟨.hbm, 55, rfl⟩
abbrev main_while0b_cst_16 : Ref sig .tc := ⟨.hbm, 56, rfl⟩
abbrev main_while0b_v24 : Ref sig .tc := ⟨.hbm, 57, rfl⟩
abbrev main_while0b_v25 : Ref sig .tc := ⟨.hbm, 58, rfl⟩
abbrev main_while0b_cst_17 : Ref sig .tc := ⟨.hbm, 59, rfl⟩
abbrev main_while0b_v26 : Ref sig .tc := ⟨.hbm, 60, rfl⟩
abbrev main_while0b_v27 : Ref sig .tc := ⟨.hbm, 61, rfl⟩
abbrev main_while0b_v28 : Ref sig .tc := ⟨.hbm, 62, rfl⟩
abbrev main_while0b_v29 : Ref sig .tc := ⟨.hbm, 63, rfl⟩
abbrev main_while0b_v30 : Ref sig .tc := ⟨.hbm, 64, rfl⟩
abbrev main_while0b_v31 : Ref sig .tc := ⟨.hbm, 65, rfl⟩
abbrev main_while0b_v32 : Ref sig .tc := ⟨.hbm, 66, rfl⟩
abbrev main_while0b_v33 : Ref sig .tc := ⟨.hbm, 67, rfl⟩
abbrev main_while0b_v34 : Ref sig .tc := ⟨.hbm, 68, rfl⟩
abbrev main_while0b_v35 : Ref sig .tc := ⟨.hbm, 69, rfl⟩
abbrev main_while0b_v36 : Ref sig .tc := ⟨.hbm, 70, rfl⟩
abbrev main_while0b_v37 : Ref sig .tc := ⟨.hbm, 71, rfl⟩
abbrev main_while0b_v38 : Ref sig .tc := ⟨.hbm, 72, rfl⟩
abbrev main_while0b_v39 : Ref sig .tc := ⟨.hbm, 73, rfl⟩
abbrev main_while0b_v40 : Ref sig .tc := ⟨.hbm, 74, rfl⟩
abbrev main_while0b_cst_18 : Ref sig .tc := ⟨.hbm, 75, rfl⟩
abbrev main_while0b_v41 : Ref sig .tc := ⟨.hbm, 76, rfl⟩
abbrev main_while0b_v42 : Ref sig .tc := ⟨.hbm, 77, rfl⟩
abbrev main_while0b_cst_19 : Ref sig .tc := ⟨.hbm, 78, rfl⟩
abbrev main_while0b_v43 : Ref sig .tc := ⟨.hbm, 79, rfl⟩
abbrev main_while0b_v44 : Ref sig .tc := ⟨.hbm, 80, rfl⟩
abbrev main_while0b_v45 : Ref sig .tc := ⟨.hbm, 81, rfl⟩
abbrev main_while0b_v46 : Ref sig .tc := ⟨.hbm, 82, rfl⟩
abbrev main_while0b_v47 : Ref sig .tc := ⟨.hbm, 83, rfl⟩
abbrev main_while0b_v48 : Ref sig .tc := ⟨.hbm, 84, rfl⟩
abbrev main_while0b_v49 : Ref sig .tc := ⟨.hbm, 85, rfl⟩
abbrev main_while0b_call1_v0 : Ref sig .tc := ⟨.hbm, 86, rfl⟩
abbrev main_while0b_call1_c : Ref sig .tc := ⟨.hbm, 87, rfl⟩
abbrev main_while0b_call1_c_0 : Ref sig .tc := ⟨.hbm, 88, rfl⟩
abbrev main_while0b_v50 : Ref sig .tc := ⟨.hbm, 89, rfl⟩
abbrev main_while0b_c_20 : Ref sig .tc := ⟨.hbm, 90, rfl⟩
abbrev main_while0b_v51 : Ref sig .tc := ⟨.hbm, 91, rfl⟩

abbrev nD : Nat := 1
abbrev τ : Topo := Topo.v7x

variable {F : FTy → Type} [FloatOps F]

abbrev main_while0_count : Scf.Loop 32 := ⟨0#32, 512#32, 1#32⟩
-- ==== Proof.Sigmoid.lean ====
/-
  The logistic function in two spellings, over the extended reals.
  The kernel computes `0.5 * tanh (0.5 * x) + 0.5`, the reference `1 / (1 + exp (-x))`.
  Both are `Ideal.logistic x`, at the two infinities too.
-/
module

public import Idealize.ShloMosaic.PureOps.Ideal

@[expose] public section

noncomputable section

namespace Cert.Lstm

open Idealize.ShloMosaic

/-- The float word of one half denotes the real 1/2. -/
theorem word_half : Ideal.ofBits .f32 0x3F000000#32 = ((1 / 2 : ℝ) : EReal) := by
  simp [Ideal.ofBits, Ideal.ieee, -EReal.coe_mul]; norm_num

/-- The float word of one denotes 1. -/
theorem word_one : Ideal.ofBits .f32 0x3F800000#32 = 1 := by
  simp [Ideal.ofBits, Ideal.ieee, -EReal.coe_mul]; norm_num

/-- The float word of zero denotes 0. -/
theorem word_zero : Ideal.ofBits .f32 0x00000000#32 = 0 := by
  simp [Ideal.ofBits, Ideal.ieee, -EReal.coe_mul]

/-- The identity over the reals: half of `tanh (x / 2)` plus one half is `1 / (1 + exp (-x))`. -/
theorem half_tanh_real (x : ℝ) : 1 / 2 * Real.tanh (1 / 2 * x) + 1 / 2 = (1 + Real.exp (-x))⁻¹ := by
  have e1 : Real.exp (-x) = Real.exp (-(1 / 2 * x)) * Real.exp (-(1 / 2 * x)) := by
    rw [← Real.exp_add]; congr 1; ring
  have e2 : Real.exp (1 / 2 * x) * Real.exp (-(1 / 2 * x)) = 1 := by
    rw [← Real.exp_add, add_neg_cancel, Real.exp_zero]
  have p := Real.exp_pos (1 / 2 * x)
  have q := Real.exp_pos (-(1 / 2 * x))
  rw [Real.tanh_eq_sinh_div_cosh, Real.sinh_eq, Real.cosh_eq, e1]
  generalize Real.exp (1 / 2 * x) = a at *
  generalize Real.exp (-(1 / 2 * x)) = b at *
  have hab : a + b ≠ 0 := by positivity
  have hb : 1 + b * b ≠ 0 := by positivity
  field_simp
  linear_combination (2 * b) * e2

/-- The kernel's spelling is the logistic function. -/
theorem half_tanh (x : EReal) :
    Ideal.ofBits .f32 0x3F000000#32 * Ideal.tanh (Ideal.ofBits .f32 0x3F000000#32 * x) + Ideal.ofBits .f32 0x3F000000#32
      = Ideal.logistic x := by
  rw [word_half]
  have h2 : (0 : ℝ) < 1 / 2 := by norm_num
  induction x using EReal.rec with
  | bot =>
    rw [EReal.coe_mul_bot_of_pos h2, Ideal.tanh_bot, Ideal.logistic_bot, ← EReal.coe_one, ← EReal.coe_neg,
      ← EReal.coe_mul, ← EReal.coe_add, ← EReal.coe_zero]
    norm_num
  | top =>
    rw [EReal.coe_mul_top_of_pos h2, Ideal.tanh_top, Ideal.logistic_top, ← EReal.coe_one,
      ← EReal.coe_mul, ← EReal.coe_add]
    norm_num
  | coe r =>
    rw [← EReal.coe_mul, Ideal.tanh_coe, ← EReal.coe_mul, ← EReal.coe_add, Ideal.logistic_coe, half_tanh_real]

/-- The reference's spelling is the logistic function. -/
theorem one_div_exp (x : EReal) :
    Ideal.div (Ideal.ofBits .f32 0x3F800000#32) (Ideal.ofBits .f32 0x3F800000#32 + Ideal.exp (-x)) = Ideal.logistic x := by
  rw [word_one]; rfl

end Cert.Lstm

end
-- ==== Proof.Spec.lean ====
/-
  The network itself, over the extended reals and over plain functions of positions: no program is mentioned here.
  A step takes the input `x r k` (64 rows of 512), the hidden state `h r k` and the cell `c r j`, both 64 rows of 512;
  gate `q` has weights `W q j k` (512 rows of 1024, the first 512 columns for the input and the others for the hidden
  state) and bias `b q j`. Gates 0, 1, 2, 3 are forget, input, candidate, output.
-/
module

public import Idealize.ShloMosaic.PureOps.Ideal
public import Idealize.ShloMosaic.Lib.ValueIdx

@[expose] public section

noncomputable section

namespace Cert.Lstm

open Idealize.ShloMosaic Idealize.ShloMosaic.ValueIdx
open scoped BigOperators

/-- 64 rows of 512 values. -/
abbrev Rows : Type := Fin 64 → Fin 512 → EReal

/-- The weights and biases of the four gates. -/
structure Params where
  W : Fin 4 → Fin 512 → Fin 1024 → EReal
  b : Fin 4 → Fin 512 → EReal

/-- The share of the input in gate `q`: its product with the first 512 columns of the weights, plus the bias. -/
def share (P : Params) (x : Rows) (q : Fin 4) (r : Fin 64) (j : Fin 512) : EReal :=
  (∑ k : Fin 512, x r k * P.W q j (Fin.castAdd 512 k)) + P.b q j

/-- Gate `q` before its activation. -/
def gate (P : Params) (x h : Rows) (q : Fin 4) (r : Fin 64) (j : Fin 512) : EReal :=
  share P x q r j + ∑ k : Fin 512, h r k * P.W q j (Fin.natAdd 512 k)

/-- The cell after a step. -/
def cell (P : Params) (x h c : Rows) : Rows := fun r j =>
  Ideal.logistic (gate P x h 0 r j) * c r j + Ideal.logistic (gate P x h 1 r j) * Ideal.tanh (gate P x h 2 r j)

/-- The hidden state after a step, of the new cell `c'`. -/
def hidden (P : Params) (x h c' : Rows) : Rows := fun r j =>
  Ideal.logistic (gate P x h 3 r j) * Ideal.tanh (c' r j)

/-- The hidden state and the cell after `n` steps from zero, step `t` taking the input `x t`. -/
def seq (P : Params) (x : ℕ → Rows) : ℕ → Rows × Rows
  | 0 => (fun _ _ => 0, fun _ _ => 0)
  | n + 1 => (hidden P (x n) (seq P x n).1 (cell P (x n) (seq P x n).1 (seq P x n).2),
      cell P (x n) (seq P x n).1 (seq P x n).2)

/-- The gate as ONE product: the input and the hidden state laid end to end, times all 1024 columns, plus the bias. -/
theorem gate_joined (P : Params) (x h : Rows) (q : Fin 4) (r : Fin 64) (j : Fin 512) (a : Fin 1024 → EReal)
    (hx : ∀ k : Fin 512, a (Fin.castAdd 512 k) = x r k) (hh : ∀ k : Fin 512, a (Fin.natAdd 512 k) = h r k) :
    (∑ k : Fin 1024, a k * P.W q j k) + P.b q j = gate P x h q r j := by
  have e : (∑ k : Fin 1024, a k * P.W q j k) = (∑ k : Fin 512, x r k * P.W q j (Fin.castAdd 512 k))
      + ∑ k : Fin 512, h r k * P.W q j (Fin.natAdd 512 k) := by
    have e' := Fin.sum_univ_add (a := 512) (b := 512) (M := EReal) fun k : Fin (512 + 512) => a k * P.W q j k
    simp only [hx, hh] at e'
    exact e'
  rw [e]
  show _ = (_ + _) + _
  exact add_right_comm _ _ _

/-- The parameters that eight arrays hold: weights and bias of each gate in turn. -/
def ofArrays (w0 : (⟨2, ![512, 1024]⟩ : Shape).Idx → EReal) (b0 : (⟨1, ![512]⟩ : Shape).Idx → EReal)
    (w1 : (⟨2, ![512, 1024]⟩ : Shape).Idx → EReal) (b1 : (⟨1, ![512]⟩ : Shape).Idx → EReal)
    (w2 : (⟨2, ![512, 1024]⟩ : Shape).Idx → EReal) (b2 : (⟨1, ![512]⟩ : Shape).Idx → EReal)
    (w3 : (⟨2, ![512, 1024]⟩ : Shape).Idx → EReal) (b3 : (⟨1, ![512]⟩ : Shape).Idx → EReal) : Params where
  W := fun q j k => (![w0, w1, w2, w3] : Fin 4 → (⟨2, ![512, 1024]⟩ : Shape).Idx → EReal) q (ix2 j k)
  b := fun q j => (![b0, b1, b2, b3] : Fin 4 → (⟨1, ![512]⟩ : Shape).Idx → EReal) q (ix1 j)

/-- The inputs that an array holds, one matrix a step (past the last step, the count wraps). -/
def inputs (x : (⟨3, ![512, 64, 512]⟩ : Shape).Idx → EReal) (t : ℕ) : Rows := fun r k => x (ix3 (Fin.ofNat 512 t) r k)

/-- A matrix of 64 rows as a function of its row and column. -/
def rows (v : (⟨2, ![64, 512]⟩ : Shape).Idx → EReal) : Rows := fun r j => v (ix2 r j)

end Cert.Lstm

end
-- ==== Proof.Block.lean ====
/-
  One grid point of the kernel, as a recurrence.
  A point takes sixteen time steps. A step takes the four gates' share of the input (a window of the scratch filled at
  the start of the point), the four gates' recurrent weights, and the state (h, c) before it.
  `roll` is the recurrence of the steps, and `run_A`, `run_B`, `run_C` say that what the body leaves in its buffers is
  its state after sixteen steps, and its sixteen successive h's.
-/
module

public import proofs.«01_k».proof.Proof.Gen.KernelIdeal.Value

@[expose] public section

noncomputable section

namespace Cert.Lstm.Block

open Idealize.ShloMosaic Idealize.ShloMosaic.TcCoe
open Cert.KernelIdeal Cert.KernelIdeal.Gen

variable {F : FTy → Type} [FloatOps F]

/-- The recurrent product of one gate: the state h, rounded, times the gate's weights, from a zero accumulator. -/
def recur (h : FVec F S64x512 .f32) (w : Vec F S512x512 .bf16) : FVec F S64x512 .f32 :=
  matmul dot_S64x512_S512x512_S64x512_1_0_0_1_n_n none (truncf .bf16 h bitsLt_bf16_f32) w (constant S64x512 .f32 0x00000000#32)

/-- The kernel's spelling of the logistic function, elementwise. -/
def squash (a : FVec F S64x512 .f32) : FVec F S64x512 .f32 :=
  addf (mulf (broadcast S64x512 (Scalar.ofBits .f32 0x3F000000#32))
    (tanh (mulf (broadcast S64x512 (Scalar.ofBits .f32 0x3F000000#32)) a))) (broadcast S64x512 (Scalar.ofBits .f32 0x3F000000#32))

/-- The cell after one step: forget gate times the old cell plus input gate times candidate. -/
def nextC (p : Fin 4 → Vec F S64x512 .f32) (w : Fin 4 → Vec F S512x512 .bf16) (h c : FVec F S64x512 .f32) : FVec F S64x512 .f32 :=
  addf (mulf (squash (addf (p 0) (recur h (w 0)))) c)
    (mulf (squash (addf (p 1) (recur h (w 1)))) (tanh (addf (p 2) (recur h (w 2)))))

/-- The hidden state after one step: output gate times the tanh of the new cell `c'`. -/
def nextH (p : Fin 4 → Vec F S64x512 .f32) (w : Fin 4 → Vec F S512x512 .bf16) (h c' : FVec F S64x512 .f32) : FVec F S64x512 .f32 :=
  mulf (squash (addf (p 3) (recur h (w 3)))) (tanh c')

/-- The state (h, c) after `n` steps from (h0, c0). -/
def roll (p : ℕ → Fin 4 → Vec F S64x512 .f32) (w : Fin 4 → Vec F S512x512 .bf16) (h0 c0 : FVec F S64x512 .f32) :
    ℕ → FVec F S64x512 .f32 × FVec F S64x512 .f32
  | 0 => (h0, c0)
  | n + 1 => (nextH (p n) w (roll p w h0 c0 n).1 (nextC (p n) w (roll p w h0 c0 n).1 (roll p w h0 c0 n).2),
      nextC (p n) w (roll p w h0 c0 n).1 (roll p w h0 c0 n).2)

/-- The stores of the first `n` steps into the block of outputs, the last first: step `s` stores its h at row `s`. -/
def outPieces (hs : ℕ → FVec F S64x512 .f32) : ℕ → List (View.Piece (Elt F) S16x64x512 .f32)
  | 0 => []
  | n + 1 => ⟨Rect.unit ![n % 16, 0, 0] S1x64x512.size (fun a => by
        match a with
        | ⟨0, _⟩ => show n % 16 + 1 ≤ 16; omega
        | ⟨1, _⟩ => show 0 + 64 ≤ 64; omega
        | ⟨2, _⟩ => show 0 + 512 ≤ 512; omega),
      shapeCast S1x64x512 (hs n) shapeCasts_S64x512_S1x64x512⟩ :: outPieces hs n

/-- The window of gate `q` and step `s` in the scratch of the input's share. -/
def preRect (s : ℕ) (q : Fin 4) : Rect S1024x2048 :=
  Rect.unit ![64 * (s % 16), 512 * q.val] S64x512.size (fun a => by
    match a with
    | ⟨0, _⟩ => show 64 * (s % 16) + 64 ≤ 1024; omega
    | ⟨1, _⟩ => show 512 * q.val + 512 ≤ 2048; omega)

/-- The window of gate `q` in the scratch of the recurrent weights. -/
def whtRect (q : Fin 4) : Rect S512x2048 :=
  Rect.unit ![0, 512 * q.val] S512x512.size (fun a => by
    match a with
    | ⟨0, _⟩ => show 0 + 512 ≤ 512; omega
    | ⟨1, _⟩ => show 512 * q.val + 512 ≤ 2048; omega)

/-- One gate's share of the input over the whole block: the block's rows times the left half of the gate's weights, plus
    the gate's bias. -/
def preVal (x : Vec F S16x64x512 .f32) (w : Vec F S512x512 .f32) (b : Vec F S1x512 .f32) : FVec F S1024x512 .f32 :=
  addf (matmul (φ₁ := .f32) (φ₂ := .f32) dot_S1024x512_S512x512_S1024x512_1_1_0_0_n_n none (shapeCast S1024x512 x shapeCasts_S16x64x512_S1024x512) w
      (constant S1024x512 .f32 0x00000000#32))
    (broadcastTo S1024x512 (shapeCast S1x512 (shapeCast S512 b shapeCasts_S1x512_S512) shapeCasts_S512_S1x512) broadcasts_S1x512_S1024x512)

/-- The store of gate `q`'s share of the input into its columns of the scratch. -/
def prePiece (x : Vec F S16x64x512 .f32) (w : Fin 4 → Vec F S512x512 .f32) (b : Fin 4 → Vec F S1x512 .f32) (q : Fin 4) :
    View.Piece (Elt F) S1024x2048 .f32 :=
  ⟨Rect.unit ![0, 512 * q.val] S1024x512.size (fun a => by
    match a with
    | ⟨0, _⟩ => show 0 + 1024 ≤ 1024; omega
    | ⟨1, _⟩ => show 512 * q.val + 512 ≤ 2048; omega),
    shapeCast S1024x512 (preVal x (w q) (b q)) shapeCasts_S1024x512_S1024x512⟩

/-- The four gates' share of the input at step `s`, as the body loads it from the scratch it filled. -/
def preAt (v : View sig .tc .vmem S1024x2048 .f32) (x : Vec F S16x64x512 .f32) (w : Fin 4 → Vec F S512x512 .f32)
    (b : Fin 4 → Vec F S1x512 .f32) (s : ℕ) (q : Fin 4) : Vec F S64x512 .f32 :=
  v.readCov [prePiece x w b 3, prePiece x w b 2, prePiece x w b 1, prePiece x w b 0] (preRect s q).toLoadRect

/-- The columns `[lo, lo + 512)` of a gate's weights. -/
def wRect (lo : ℕ) (h : lo + 512 ≤ 1024) : Rect S512x1024 :=
  Rect.unit ![0, lo] S512x512.size (fun a => by
    match a with
    | ⟨0, _⟩ => show 0 + 512 ≤ 512; omega
    | ⟨1, _⟩ => exact h)

/-- Gate `q`'s columns of the biases laid end to end. -/
def bRect (q : Fin 4) : Rect S1x2048 :=
  Rect.unit ![0, 512 * q.val] S1x512.size (fun a => by
    match a with
    | ⟨0, _⟩ => show 0 + 1 ≤ 1; omega
    | ⟨1, _⟩ => show 512 * q.val + 512 ≤ 2048; omega)

/-- All of a block of inputs. -/
def xRect : Rect S16x64x512 := Rect.unit ![0, 0, 0] S16x64x512.size inb_S16x64x512_S16x64x512_0_0_0

/-- All of a state. -/
def hRect : Rect S64x512 := Rect.unit ![0, 0] S64x512.size inb_S64x512_S64x512_0_0

variable (c : Dev nD) (i : grid0.Coords)
  (arg1 : Memref sig .tc .vmem S16x64x512 .f32) (harg1 : arg1.IsWhole) (arg2 : Memref sig .tc .vmem S512x1024 .f32) (harg2 : arg2.IsWhole)
  (arg3 : Memref sig .tc .vmem S512x1024 .f32) (harg3 : arg3.IsWhole) (arg4 : Memref sig .tc .vmem S512x1024 .f32) (harg4 : arg4.IsWhole)
  (arg5 : Memref sig .tc .vmem S512x1024 .f32) (harg5 : arg5.IsWhole) (arg6 : Memref sig .tc .vmem S1x2048 .f32) (harg6 : arg6.IsWhole)
  (arg7 : Memref sig .tc .vmem S16x64x512 .f32) (harg7 : arg7.IsWhole) (arg8 : Memref sig .tc .vmem S64x512 .f32) (harg8 : arg8.IsWhole)
  (arg9 : Memref sig .tc .vmem S64x512 .f32) (harg9 : arg9.IsWhole) (arg10 : Memref sig .tc .vmem S64x512 .f32) (harg10 : arg10.IsWhole)
  (arg11 : Memref sig .tc .vmem S64x512 .f32) (harg11 : arg11.IsWhole) (arg12 : Memref sig .tc .vmem S512x2048 .bf16) (harg12 : arg12.IsWhole)
  (arg13 : Memref sig .tc .vmem S1024x2048 .f32) (harg13 : arg13.IsWhole)
  (x0 : Vec F S16x64x512 .f32) (x1 : Vec F S512x1024 .f32) (x2 : Vec F S512x1024 .f32) (x3 : Vec F S512x1024 .f32) (x4 : Vec F S512x1024 .f32)
  (x5 : Vec F S1x2048 .f32) (xs0 : Vec F S64x512 .f32) (xs1 : Vec F S64x512 .f32) (xs2 : Vec F S512x2048 .bf16)

/-- The four gates' weights, the columns from `lo`, as the body loads them. -/
def wLoad (lo : ℕ) (h : lo + 512 ≤ 1024) (q : Fin 4) : Vec F S512x512 .f32 :=
  match q with
  | 0 => arg2.view.readAt (Elt F) (wRect lo h).toLoadRect (harg2.unread x1)
  | 1 => arg3.view.readAt (Elt F) (wRect lo h).toLoadRect (harg3.unread x2)
  | 2 => arg4.view.readAt (Elt F) (wRect lo h).toLoadRect (harg4.unread x3)
  | 3 => arg5.view.readAt (Elt F) (wRect lo h).toLoadRect (harg5.unread x4)

/-- The four gates' share of the input at step `s` of the point, of the point's blocks. -/
def preB : ℕ → Fin 4 → Vec F S64x512 .f32 :=
  preAt arg13.view (arg1.view.readAt (Elt F) xRect.toLoadRect (harg1.unread x0))
    (wLoad arg2 harg2 arg3 harg3 arg4 harg4 arg5 harg5 x1 x2 x3 x4 0 (by omega))
    (fun q => arg6.view.readAt (Elt F) (bRect q).toLoadRect (harg6.unread x5))

/-- The steps of a point at which the state and the recurrent weights are carried in from the point before. -/
def rollB : ℕ → FVec F S64x512 .f32 × FVec F S64x512 .f32 :=
  roll (preB arg1 harg1 arg2 harg2 arg3 harg3 arg4 harg4 arg5 harg5 arg6 harg6 arg13 x0 x1 x2 x3 x4 x5)
    (fun q => arg12.view.readAt (Elt F) (whtRect q).toLoadRect (harg12.unread xs2))
    (arg10.view.readAt (Elt F) hRect.toLoadRect (harg10.unread xs0))
    (arg11.view.readAt (Elt F) hRect.toLoadRect (harg11.unread xs1))

/-- A store of a whole state. -/
def statePiece (h : FVec F S64x512 .f32) : View.Piece (Elt F) S64x512 .f32 :=
  ⟨hRect, shapeCast S64x512 h shapeCasts_S64x512_S64x512⟩

/-- A store of a whole state into a result. -/
def resultPiece (h : FVec F S64x512 .f32) : View.Piece (Elt F) S64x512 .f32 := ⟨hRect, h⟩

/-- The store of gate `q`'s recurrent weights, transposed and rounded, into its columns of their scratch. -/
def whtPiece (w : Fin 4 → Vec F S512x512 .f32) (q : Fin 4) : View.Piece (Elt F) S512x2048 .bf16 :=
  ⟨whtRect q, shapeCast S512x512 (truncf .bf16 (transpose S512x512 [1, 0] (w q) transposes_S512x512_p1_0_S512x512 : FVec F S512x512 .f32) bitsLt_bf16_f32)
    shapeCasts_S512x512_S512x512⟩

/-- The stores that fill the scratch of the recurrent weights, the last first. -/
def whtA : List (View.Piece (Elt F) S512x2048 .bf16) :=
  let w := wLoad arg2 harg2 arg3 harg3 arg4 harg4 arg5 harg5 x1 x2 x3 x4 512 (by omega)
  [whtPiece w 3, whtPiece w 2, whtPiece w 1, whtPiece w 0]

/-- The zero state. -/
def zeroState : FVec F S64x512 .f32 := broadcast S64x512 (Scalar.ofBits .f32 0x00000000#32)

/-- The steps of the first point: the state starts at zero, and the recurrent weights are the ones it stored. -/
def rollA : ℕ → FVec F S64x512 .f32 × FVec F S64x512 .f32 :=
  roll (preB arg1 harg1 arg2 harg2 arg3 harg3 arg4 harg4 arg5 harg5 arg6 harg6 arg13 x0 x1 x2 x3 x4 x5)
    (fun q => arg12.view.readCov (whtA arg2 harg2 arg3 harg3 arg4 harg4 arg5 harg5 x1 x2 x3 x4) (whtRect q).toLoadRect)
    (arg10.view.readCov [statePiece zeroState] hRect.toLoadRect) (arg11.view.readCov [statePiece zeroState] hRect.toLoadRect)

/-- The first point: what it stores into the outputs, into the two states and into the recurrent weights. -/
theorem run_A (hc0 : cond0_0 i) (hc1 : ¬cond0_1 i) :
    (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5).1 = outPieces (fun n => (rollA arg1 harg1 arg2 harg2 arg3 harg3 arg4 harg4 arg5 harg5 arg6 harg6 arg10 arg11 arg12 arg13 x0 x1 x2 x3 x4 x5 (n + 1)).1) 16
    ∧ (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5).2.2.2.1 = [statePiece (rollA arg1 harg1 arg2 harg2 arg3 harg3 arg4 harg4 arg5 harg5 arg6 harg6 arg10 arg11 arg12 arg13 x0 x1 x2 x3 x4 x5 16).1, statePiece zeroState]
    ∧ (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5).2.2.2.2.1 = [statePiece (rollA arg1 harg1 arg2 harg2 arg3 harg3 arg4 harg4 arg5 harg5 arg6 harg6 arg10 arg11 arg12 arg13 x0 x1 x2 x3 x4 x5 16).2, statePiece zeroState]
    ∧ (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5).2.2.2.2.2.1 = whtA arg2 harg2 arg3 harg3 arg4 harg4 arg5 harg5 x1 x2 x3 x4 := by
  refine ⟨?_, ?_, ?_, ?_⟩ <;> sl_kernel_rfl

/-- A point between the first and the last: what it stores into the outputs and into the two states. -/
theorem run_B (hc0 : ¬cond0_0 i) (hc1 : ¬cond0_1 i) :
    (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2).1 = outPieces (fun n => (rollB arg1 harg1 arg2 harg2 arg3 harg3 arg4 harg4 arg5 harg5 arg6 harg6 arg10 harg10 arg11 harg11 arg12 harg12 arg13 x0 x1 x2 x3 x4 x5 xs0 xs1 xs2 (n + 1)).1) 16
    ∧ (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2).2.2.2.1 = [statePiece (rollB arg1 harg1 arg2 harg2 arg3 harg3 arg4 harg4 arg5 harg5 arg6 harg6 arg10 harg10 arg11 harg11 arg12 harg12 arg13 x0 x1 x2 x3 x4 x5 xs0 xs1 xs2 16).1]
    ∧ (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2).2.2.2.2.1 = [statePiece (rollB arg1 harg1 arg2 harg2 arg3 harg3 arg4 harg4 arg5 harg5 arg6 harg6 arg10 harg10 arg11 harg11 arg12 harg12 arg13 x0 x1 x2 x3 x4 x5 xs0 xs1 xs2 16).2] := by
  refine ⟨?_, ?_, ?_⟩ <;> sl_kernel_rfl

/-- The last point: what it stores into the outputs and into the two final states. -/
theorem run_C (hc0 : ¬cond0_0 i) (hc1 : cond0_1 i) :
    (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2).1 = outPieces (fun n => (rollB arg1 harg1 arg2 harg2 arg3 harg3 arg4 harg4 arg5 harg5 arg6 harg6 arg10 harg10 arg11 harg11 arg12 harg12 arg13 x0 x1 x2 x3 x4 x5 xs0 xs1 xs2 (n + 1)).1) 16
    ∧ (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2).2.1 = [resultPiece (rollB arg1 harg1 arg2 harg2 arg3 harg3 arg4 harg4 arg5 harg5 arg6 harg6 arg10 harg10 arg11 harg11 arg12 harg12 arg13 x0 x1 x2 x3 x4 x5 xs0 xs1 xs2 16).2]
    ∧ (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2).2.2.1 = [resultPiece (rollB arg1 harg1 arg2 harg2 arg3 harg3 arg4 harg4 arg5 harg5 arg6 harg6 arg10 harg10 arg11 harg11 arg12 harg12 arg13 x0 x1 x2 x3 x4 x5 xs0 xs1 xs2 16).1] := by
  refine ⟨?_, ?_, ?_⟩ <;> sl_kernel_rfl

end Cert.Lstm.Block

end
-- ==== Proof.Steps.lean ====
/-
  The sixteen steps of a grid point at the ideal values: their recurrence is the network's, once the share of the input
  and the recurrent weights are the network's at every position.
-/
module

public import proofs.«01_k».proof.Proof.Sigmoid
public import proofs.«01_k».proof.Proof.Spec
public import proofs.«01_k».proof.Proof.Block
public import Idealize.ShloMosaic.Lib.ValueIdx
public import Idealize.ShloMosaic.Lib.ValueLayout
public import Idealize.ShloMosaic.Lib.MatmulPlain

@[expose] public section

noncomputable section

namespace Cert.Lstm.Block

open Idealize.ShloMosaic
open Idealize.ShloMosaic.ValueIdx
open Cert.KernelIdeal Cert.KernelIdeal.Gen
open scoped BigOperators

/-- The recurrent product of a gate, at a position. -/
theorem recur_apply (h : S64x512.Idx → EReal) (w : S512x512.Idx → EReal) (r : Fin 64) (j : Fin 512) :
    (recur (F := Ideal) h w : S64x512.Idx → EReal) (ix2 r j) = ∑ k : Fin 512, h (ix2 r k) * w (ix2 k j) := by
  have hd : dot_S64x512_S512x512_S64x512_1_0_0_1_n_n = DotDims.plain 64 512 512 := rfl
  unfold recur
  show FloatOps.matmul (F := Ideal) dot_S64x512_S512x512_S64x512_1_0_0_1_n_n none _ _ _ (ix2 r j) = _
  rw [hd, Ideal.matmul_plain_apply]
  refine (congrArg (· + _) word_zero).trans (zero_add _)

/-- The kernel's logistic function, at a position. -/
theorem squash_apply (a : S64x512.Idx → EReal) (i : S64x512.Idx) :
    (squash (F := Ideal) a : S64x512.Idx → EReal) i = Ideal.logistic (a i) :=
  half_tanh (a i)

variable {P : Params} {x : Rows} {p : Fin 4 → S64x512.Idx → EReal} {w : Fin 4 → S512x512.Idx → EReal}

/-- A gate before its activation, at a position. -/
theorem pregate_apply (hp : ∀ q r j, p q (ix2 r j) = share P x q r j)
    (hw : ∀ q k j, w q (ix2 k j) = P.W q j (Fin.natAdd 512 k)) (h : S64x512.Idx → EReal) (q : Fin 4) (r : Fin 64) (j : Fin 512) :
    (addf (F := Ideal) (φ := .f32) (p q) (recur (F := Ideal) h (w q)) : S64x512.Idx → EReal) (ix2 r j)
      = gate P x (rows h) q r j := by
  show p q (ix2 r j) + (recur (F := Ideal) h (w q) : S64x512.Idx → EReal) (ix2 r j) = _
  rw [recur_apply, hp]
  simp only [hw]
  rfl

/-- The new cell is the network's. -/
theorem nextC_rows (hp : ∀ q r j, p q (ix2 r j) = share P x q r j)
    (hw : ∀ q k j, w q (ix2 k j) = P.W q j (Fin.natAdd 512 k)) (h c : S64x512.Idx → EReal) :
    rows (nextC (F := Ideal) p w h c) = cell P x (rows h) (rows c) := by
  funext r j
  have g := pregate_apply hp hw h
  show (squash (F := Ideal) (addf (F := Ideal) (φ := .f32) (p 0) (recur (F := Ideal) h (w 0))) : S64x512.Idx → EReal) (ix2 r j) * c (ix2 r j)
    + (squash (F := Ideal) (addf (F := Ideal) (φ := .f32) (p 1) (recur (F := Ideal) h (w 1))) : S64x512.Idx → EReal) (ix2 r j)
      * Ideal.tanh ((addf (F := Ideal) (φ := .f32) (p 2) (recur (F := Ideal) h (w 2)) : S64x512.Idx → EReal) (ix2 r j)) = _
  rw [squash_apply, squash_apply, g, g, g]
  rfl

/-- The new hidden state is the network's. -/
theorem nextH_rows (hp : ∀ q r j, p q (ix2 r j) = share P x q r j)
    (hw : ∀ q k j, w q (ix2 k j) = P.W q j (Fin.natAdd 512 k)) (h c' : S64x512.Idx → EReal) :
    rows (nextH (F := Ideal) p w h c') = hidden P x (rows h) (rows c') := by
  funext r j
  have g := pregate_apply hp hw h
  show (squash (F := Ideal) (addf (F := Ideal) (φ := .f32) (p 3) (recur (F := Ideal) h (w 3))) : S64x512.Idx → EReal) (ix2 r j)
      * Ideal.tanh (c' (ix2 r j)) = _
  rw [squash_apply, g]
  rfl

/-- From the network's state after `n0` steps, the recurrence reaches its state after `n0 + n` steps. -/
theorem roll_rows {P : Params} {X : ℕ → Rows} {n0 : ℕ} {p : ℕ → Fin 4 → S64x512.Idx → EReal} {w : Fin 4 → S512x512.Idx → EReal}
    {h0 c0 : S64x512.Idx → EReal} (hp : ∀ s, s < 16 → ∀ q r j, p s q (ix2 r j) = share P (X (n0 + s)) q r j)
    (hw : ∀ q k j, w q (ix2 k j) = P.W q j (Fin.natAdd 512 k))
    (hh : rows h0 = (seq P X n0).1) (hc : rows c0 = (seq P X n0).2) :
    ∀ n, n ≤ 16 → rows (roll (F := Ideal) p w h0 c0 n).1 = (seq P X (n0 + n)).1
      ∧ rows (roll (F := Ideal) p w h0 c0 n).2 = (seq P X (n0 + n)).2
  | 0, _ => ⟨hh, hc⟩
  | n + 1, hn => by
    obtain ⟨ih, ic⟩ := roll_rows hp hw hh hc n (by omega)
    have e2 := nextC_rows (hp n (by omega)) hw (roll (F := Ideal) p w h0 c0 n).1 (roll (F := Ideal) p w h0 c0 n).2
    have e1 := nextH_rows (hp n (by omega)) hw (roll (F := Ideal) p w h0 c0 n).1
      (nextC (F := Ideal) (p n) w (roll (F := Ideal) p w h0 c0 n).1 (roll (F := Ideal) p w h0 c0 n).2)
    rw [ih, ic] at e2
    rw [ih, e2] at e1
    exact ⟨e1, e2⟩

end Cert.Lstm.Block

end
-- ==== Proof.Stores.lean ====
/-
  The stores and loads of a grid point, position by position: the share of the input in the columns of its scratch, the
  recurrent weights in the columns of theirs, and the sixteen rows of the outputs.
-/
module

public import proofs.«01_k».proof.Proof.Steps
public import Idealize.ShloMosaic.Lib.Pipeline.Value
public import Idealize.ShloMosaic.Lib.Pipeline.FrameBody

@[expose] public section

noncomputable section

namespace Cert.Lstm.Block

open Idealize.ShloMosaic
open Idealize.ShloMosaic.ValueIdx
open Cert.KernelIdeal Cert.KernelIdeal.Gen
open scoped BigOperators

/-- Column `j` of gate `q` where the four gates' columns lie end to end. -/
def col (q : Fin 4) (j : Fin 512) : Fin 2048 := ⟨512 * q.val + j.val, by omega⟩

/-- All rows of gate `q`'s columns. -/
def colRect (M : ℕ) (q : Fin 4) : Rect (⟨2, ![M, 2048]⟩ : Shape) :=
  Rect.unit ![0, 512 * q.val] (⟨2, ![M, 512]⟩ : Shape).size (fun a => by
    match a with
    | ⟨0, _⟩ => show 0 + M ≤ M; omega
    | ⟨1, _⟩ => show 512 * q.val + 512 ≤ 2048; omega)

/-- Where a position of gate `q`'s columns lies. -/
theorem colRect_emb (M : ℕ) (q : Fin 4) (a : Fin M) (j : Fin 512) : (colRect M q).emb (ix2 a j) = ix2 a (col q j) :=
  funext fun d => Fin.ext (by
    match d with
    | ⟨0, _⟩ => show 0 + 1 * a.val = a.val; omega
    | ⟨1, _⟩ => show 512 * q.val + 1 * j.val = 512 * q.val + j.val; omega)

/-- Four stores, one per gate, into the gates' columns: each position holds its own gate's value. -/
theorem canon_columns {M : ℕ} {e : EltTy} (v : Fin 4 → (⟨2, ![M, 512]⟩ : Shape).Idx → Elt Ideal e) (q : Fin 4) (a : Fin M)
    (j : Fin 512) :
    View.canon (Val := Elt Ideal) [(⟨colRect M 3, v 3⟩ : View.Piece (Elt Ideal) (⟨2, ![M, 2048]⟩ : Shape) e), ⟨colRect M 2, v 2⟩,
      ⟨colRect M 1, v 1⟩, ⟨colRect M 0, v 0⟩] (ix2 a (col q j)) = v q (ix2 a j) := by
  let G : (⟨2, ![M, 2048]⟩ : Shape).Idx → Elt Ideal e := fun y =>
    v (Fin.ofNat 4 ((y 1).val / 512)) (ix2 (⟨(y 0).val, (y 0).isLt⟩ : Fin M) (Fin.ofNat 512 ((y 1).val % 512)))
  have hG : ∀ (q : Fin 4) (a : Fin M) (j : Fin 512), G (ix2 a (col q j)) = v q (ix2 a j) := fun q a j => by
    have e1 : Fin.ofNat 4 ((512 * q.val + j.val) / 512) = q := Fin.ext (by
      show (512 * q.val + j.val) / 512 % 4 = q.val; omega)
    have e2 : Fin.ofNat 512 ((512 * q.val + j.val) % 512) = j := Fin.ext (by
      show (512 * q.val + j.val) % 512 % 512 = j.val; omega)
    show v (Fin.ofNat 4 ((512 * q.val + j.val) / 512)) (ix2 a (Fin.ofNat 512 ((512 * q.val + j.val) % 512))) = _
    rw [e1, e2]
  have hp : ∀ (q : Fin 4) (x : (colRect M q).shape.Idx), v q x = G ((colRect M q).emb x) := fun q x => by
    have ex : x = ix2 (⟨(x 0).val, (x 0).isLt⟩ : Fin M) (⟨(x 1).val, (x 1).isLt⟩ : Fin 512) := funext fun d => by
      match d with
      | ⟨0, _⟩ => rfl
      | ⟨1, _⟩ => rfl
    rw [ex, colRect_emb, hG]
  refine (View.canon_apply_of_pieces G _ ?_ _ ⟨⟨colRect M q, v q⟩, ?_, ?_⟩).trans (hG q a j)
  · intro p hp'
    simp only [List.mem_cons, List.not_mem_nil, or_false] at hp'
    rcases hp' with rfl | rfl | rfl | rfl
    · exact hp 3
    · exact hp 2
    · exact hp 1
    · exact hp 0
  · match q with
    | 0 => simp
    | 1 => simp
    | 2 => simp
    | 3 => simp
  · rw [← colRect_emb]
    exact (colRect M q).idx_mem (ix2 a j)

/-- The share of the input over a block, at row `r` of its step `s`. -/
theorem preVal_apply (x : S16x64x512.Idx → EReal) (w : S512x512.Idx → EReal) (b : S1x512.Idx → EReal) (s : Fin 16) (r : Fin 64)
    (j : Fin 512) (a : Fin 1024) (ha : a.val = 64 * s.val + r.val) :
    (preVal (F := Ideal) x w b : S1024x512.Idx → EReal) (ix2 a j)
      = (∑ k : Fin 512, x (ix3 s r k) * w (ix2 j k)) + b (ix2 (0 : Fin 1) j) := by
  have hd : dot_S1024x512_S512x512_S1024x512_1_1_0_0_n_n = DotDims.transposedRhs 1024 512 512 := rfl
  have e1 : (matmul (F := Ideal) (φ₁ := .f32) (φ₂ := .f32) dot_S1024x512_S512x512_S1024x512_1_1_0_0_n_n none
      (shapeCast S1024x512 x shapeCasts_S16x64x512_S1024x512) w (constant S1024x512 .f32 0x00000000#32) : S1024x512.Idx → EReal) (ix2 a j)
      = ∑ k : Fin 512, x (ix3 s r k) * w (ix2 j k) := by
    show FloatOps.matmul (F := Ideal) dot_S1024x512_S512x512_S1024x512_1_1_0_0_n_n none _ _ _ (ix2 a j) = _
    rw [hd, Ideal.matmul_transposedRhs_apply]
    refine ((congrArg (· + _) word_zero).trans (zero_add _)).trans (Finset.sum_congr rfl fun k _ => congrArg (· * _) ?_)
    refine shapeCast_apply x _ _ (ix3 s r k) ?_
    rw [Shape.rowMajor_val_three, Shape.rowMajor_val_two]
    show (s.val * 64 + r.val) * 512 + k.val = a.val * 512 + k.val
    omega
  have e2 : (broadcastTo S1024x512 (shapeCast S1x512 (shapeCast S512 b shapeCasts_S1x512_S512) shapeCasts_S512_S1x512)
      broadcasts_S1x512_S1024x512) (ix2 a j) = b (ix2 (0 : Fin 1) j) := by
    rw [broadcastTo_1b_ab_apply, shapeCast_a_1a_apply, shapeCast_1a_a_apply]
  exact congrArg₂ (· + ·) e1 e2

/-- The store of a gate's share of the input, as a store into the gate's columns. -/
theorem prePiece_eq (x : S16x64x512.Idx → EReal) (w : Fin 4 → S512x512.Idx → EReal) (b : Fin 4 → S1x512.Idx → EReal) (q : Fin 4) :
    prePiece (F := Ideal) x w b q = ⟨colRect 1024 q, preVal (F := Ideal) x (w q) (b q)⟩ := by
  unfold prePiece
  rw [shapeCast_self]
  rfl

/-- What the body loads of the share of the input at step `s`, of gate `q`. -/
theorem preAt_apply (v : View sig .tc .vmem S1024x2048 .f32) (x : S16x64x512.Idx → EReal) (w : Fin 4 → S512x512.Idx → EReal)
    (b : Fin 4 → S1x512.Idx → EReal) (s : Fin 16) (q : Fin 4) (r : Fin 64) (j : Fin 512) :
    (preAt (F := Ideal) v x w b s.val q : S64x512.Idx → EReal) (ix2 r j)
      = (∑ k : Fin 512, x (ix3 s r k) * w q (ix2 j k)) + b q (ix2 (0 : Fin 1) j) := by
  have hs : s.val % 16 = s.val := Nat.mod_eq_of_lt s.isLt
  unfold preAt
  rw [View.readCov_eq_canon']
  have e : (preRect s.val q).toLoadRect.idx (ix2 r j) = ix2 (⟨64 * s.val + r.val, by omega⟩ : Fin 1024) (col q j) :=
    funext fun d => Fin.ext (by
      match d with
      | ⟨0, _⟩ => show 64 * (s.val % 16) + 1 * r.val = 64 * s.val + r.val; omega
      | ⟨1, _⟩ => show 512 * q.val + 1 * j.val = 512 * q.val + j.val; omega)
  show View.canon (Val := Elt Ideal) _ ((preRect s.val q).toLoadRect.idx (ix2 r j)) = _
  rw [e, prePiece_eq, prePiece_eq, prePiece_eq, prePiece_eq]
  exact (canon_columns (M := 1024) (e := .f32) (fun q => preVal (F := Ideal) x (w q) (b q)) q _ j).trans
    (preVal_apply x (w q) (b q) s r j _ rfl)

/-- Row `n` of the block of outputs. -/
def outRect (n : ℕ) : Rect S16x64x512 :=
  Rect.unit ![n % 16, 0, 0] S1x64x512.size (fun a => by
    match a with
    | ⟨0, _⟩ => show n % 16 + 1 ≤ 16; omega
    | ⟨1, _⟩ => show 0 + 64 ≤ 64; omega
    | ⟨2, _⟩ => show 0 + 512 ≤ 512; omega)

/-- Where a position of that row lies. -/
theorem outRect_emb (s : Fin 16) (r : Fin 64) (j : Fin 512) : (outRect s.val).emb (ix3 (0 : Fin 1) r j) = ix3 s r j :=
  funext fun d => Fin.ext (by
    match d with
    | ⟨0, _⟩ => show s.val % 16 + 1 * 0 = s.val; omega
    | ⟨1, _⟩ => show 0 + 1 * r.val = r.val; omega
    | ⟨2, _⟩ => show 0 + 1 * j.val = j.val; omega)

/-- That row holds nothing else. -/
theorem outRect_mem (n : ℕ) (s : Fin 16) (r : Fin 64) (j : Fin 512) (h : ix3 s r j ∈ (outRect n).set) : s.val = n % 16 := by
  unfold outRect at h
  have h0 : n % 16 ≤ s.val ∧ s.val < n % 16 + 1 := (Rect.mem_set_unit.mp h) (0 : Fin 3)
  omega

/-- One more step is one more store. -/
theorem outPieces_succ (hs : ℕ → S64x512.Idx → EReal) (n : ℕ) :
    outPieces (F := Ideal) hs (n + 1) = (⟨outRect n, shapeCast S1x64x512 (hs n) shapeCasts_S64x512_S1x64x512⟩ :
      View.Piece (Elt Ideal) S16x64x512 .f32) :: outPieces (F := Ideal) hs n := rfl

/-- The stores of the steps into the outputs: row `s` holds what step `s` stored. -/
theorem outPieces_apply (hs : ℕ → S64x512.Idx → EReal) (r : Fin 64) (j : Fin 512) (s : Fin 16) :
    ∀ n, n ≤ 16 → s.val < n → View.canon (Val := Elt Ideal) (outPieces (F := Ideal) hs n) (ix3 s r j) = hs s.val (ix2 r j)
  | 0, _, h => absurd h (Nat.not_lt_zero _)
  | n + 1, hn, h => by
    rw [outPieces_succ]
    by_cases e : s.val = n
    · subst e
      have hw := shapeCast_ab_1ab_apply (hs s.val) shapeCasts_S64x512_S1x64x512 (0 : Fin 1) r j
      generalize shapeCast (⟨3, ![1, 64, 512]⟩ : Shape) (hs s.val) shapeCasts_S64x512_S1x64x512 = w at hw ⊢
      rw [← outRect_emb s r j, ← hw]
      exact View.canon_cons_emb (outRect s.val) w (outPieces (F := Ideal) hs s.val) (ix3 (0 : Fin 1) r j)
    · refine (View.canon_cons_of_not_mem _ _ ?_).trans (outPieces_apply hs r j s n (by omega) (by omega))
      intro hmem
      have h1 := outRect_mem n s r j hmem
      omega

/-- Zero offsets, spelt out, on two axes. -/
theorem zero2 : (![0, 0] : Fin 2 → ℕ) = fun _ => 0 := funext fun a => by
  match a with
  | ⟨0, _⟩ => rfl
  | ⟨1, _⟩ => rfl

/-- Zero offsets, spelt out, on three axes. -/
theorem zero3 : (![0, 0, 0] : Fin 3 → ℕ) = fun _ => 0 := funext fun a => by
  match a with
  | ⟨0, _⟩ => rfl
  | ⟨1, _⟩ => rfl
  | ⟨2, _⟩ => rfl

/-- A store of a whole state leaves that state. -/
theorem state_canon (h : S64x512.Idx → EReal) (L : List (View.Piece (Elt Ideal) S64x512 .f32)) :
    View.canon (Val := Elt Ideal) (statePiece (F := Ideal) h :: L) = h := by
  unfold statePiece hRect
  rw [shapeCast_self]
  exact View.canon_cons_unit_zero zero2 _ h L

/-- A store of a whole state into a result leaves that state. -/
theorem result_canon (h : S64x512.Idx → EReal) (L : List (View.Piece (Elt Ideal) S64x512 .f32)) :
    View.canon (Val := Elt Ideal) (resultPiece (F := Ideal) h :: L) = h := by
  unfold resultPiece hRect
  exact View.canon_cons_unit_zero zero2 _ h L

/-- A load of a whole state reads the state. -/
theorem state_load (m : Memref sig .tc .vmem S64x512 .f32) (hm : m.IsWhole) (x : S64x512.Idx → EReal) :
    m.view.readAt (Elt Ideal) hRect.toLoadRect (hm.unread x) = x := by
  rw [View.readAt_eq_ld, hm.read_unread]
  exact View.ld_unit_zero (Val := Elt Ideal) (e := .f32) zero2 _ x

/-- A load of a whole state just after its store reads it. -/
theorem state_loadCov (v : View sig .tc .vmem S64x512 .f32) (h : S64x512.Idx → EReal) :
    v.readCov (Val := Elt Ideal) [statePiece (F := Ideal) h] hRect.toLoadRect = h := by
  rw [View.readCov_eq_canon', state_canon]
  exact View.ld_unit_zero (Val := Elt Ideal) (e := .f32) zero2 _ h

/-- A load of a whole block of inputs reads the block. -/
theorem x_load (m : Memref sig .tc .vmem S16x64x512 .f32) (hm : m.IsWhole) (x : S16x64x512.Idx → EReal) :
    m.view.readAt (Elt Ideal) xRect.toLoadRect (hm.unread x) = x := by
  rw [View.readAt_eq_ld, hm.read_unread]
  exact View.ld_unit_zero (Val := Elt Ideal) (e := .f32) zero3 _ x

/-- A load of the columns from `lo` of a gate's weights, at a position. -/
theorem w_load (m : Memref sig .tc .vmem S512x1024 .f32) (hm : m.IsWhole) (x : S512x1024.Idx → EReal) (lo : ℕ) (h : lo + 512 ≤ 1024)
    (j k : Fin 512) (k' : Fin 1024) (hk : k'.val = lo + k.val) :
    (m.view.readAt (Elt Ideal) (wRect lo h).toLoadRect (hm.unread x) : S512x512.Idx → EReal) (ix2 j k) = x (ix2 j k') := by
  rw [View.readAt_eq_ld, hm.read_unread]
  refine congrArg x (funext fun a => Fin.ext ?_)
  match a with
  | ⟨0, _⟩ => show 0 + 1 * j.val = j.val; omega
  | ⟨1, _⟩ => show lo + 1 * k.val = k'.val; omega

/-- A load of a gate's biases, at a position. -/
theorem b_load (m : Memref sig .tc .vmem S1x2048 .f32) (hm : m.IsWhole) (x : S1x2048.Idx → EReal) (q : Fin 4) (j : Fin 512) :
    (m.view.readAt (Elt Ideal) (bRect q).toLoadRect (hm.unread x) : S1x512.Idx → EReal) (ix2 (0 : Fin 1) j)
      = x (ix2 (0 : Fin 1) (col q j)) := by
  rw [View.readAt_eq_ld, hm.read_unread]
  refine congrArg x (funext fun a => Fin.ext ?_)
  match a with
  | ⟨0, _⟩ => show 0 + 1 * 0 = 0; omega
  | ⟨1, _⟩ => show 512 * q.val + 1 * j.val = 512 * q.val + j.val; omega

/-- A load of a gate's recurrent weights carried from the point before, at a position. -/
theorem wht_load (m : Memref sig .tc .vmem S512x2048 .bf16) (hm : m.IsWhole) (x : S512x2048.Idx → EReal) (q : Fin 4) (k j : Fin 512) :
    (m.view.readAt (Elt Ideal) (whtRect q).toLoadRect (hm.unread (x : S512x2048.Idx → Elt Ideal .bf16)) : S512x512.Idx → EReal) (ix2 k j)
      = x (ix2 k (col q j)) := by
  rw [View.readAt_eq_ld, hm.read_unread]
  exact congrArg x (colRect_emb 512 q k j)

/-- The store of a gate's recurrent weights, as a store into the gate's columns. -/
theorem whtPiece_eq (w : Fin 4 → S512x512.Idx → EReal) (q : Fin 4) :
    whtPiece (F := Ideal) w q = ⟨colRect 512 q, transpose S512x512 [1, 0] (w q) transposes_S512x512_p1_0_S512x512⟩ := by
  unfold whtPiece
  rw [shapeCast_self]
  rfl

/-- The four stores of the recurrent weights leave them transposed in the gates' columns. -/
theorem wht_canon (w : Fin 4 → S512x512.Idx → EReal) (q : Fin 4) (k j : Fin 512) :
    (View.canon (Val := Elt Ideal) [whtPiece (F := Ideal) w 3, whtPiece (F := Ideal) w 2, whtPiece (F := Ideal) w 1,
      whtPiece (F := Ideal) w 0] : S512x2048.Idx → EReal) (ix2 k (col q j)) = w q (ix2 j k) := by
  rw [whtPiece_eq, whtPiece_eq, whtPiece_eq, whtPiece_eq]
  exact (canon_columns (M := 512) (e := .bf16)
    (fun q => transpose S512x512 [1, 0] (w q) transposes_S512x512_p1_0_S512x512) q k j).trans
    (transpose_ix2_apply (w q) _ k j)

/-- The load of a gate's recurrent weights just after the stores, at a position. -/
theorem wht_loadCov (v : View sig .tc .vmem S512x2048 .bf16) (w : Fin 4 → S512x512.Idx → EReal) (q : Fin 4) (k j : Fin 512) :
    (v.readCov (Val := Elt Ideal) [whtPiece (F := Ideal) w 3, whtPiece (F := Ideal) w 2, whtPiece (F := Ideal) w 1,
      whtPiece (F := Ideal) w 0] (whtRect q).toLoadRect : S512x512.Idx → EReal) (ix2 k j) = w q (ix2 j k) := by
  rw [View.readCov_eq_canon']
  exact (congrArg (View.canon (Val := Elt Ideal) _) (colRect_emb 512 q k j)).trans (wht_canon w q k j)

end Cert.Lstm.Block

end
-- ==== Proof.Points.lean ====
/-
  One grid point at the ideal values: if the blocks it is handed hold the network's inputs, weights and biases, and the
  state carried to it is the network's after `n0` steps, then it stores the hidden states of the next sixteen steps into
  its block of outputs, and carries on the network's state after `n0 + 16` steps.
-/
module

public import proofs.«01_k».proof.Proof.Stores

@[expose] public section

noncomputable section

namespace Cert.Lstm.Block

open Idealize.ShloMosaic
open Idealize.ShloMosaic.ValueIdx
open Cert.KernelIdeal Cert.KernelIdeal.Gen
open scoped BigOperators

/-- The blocks of a point hold the inputs of steps `n0 … n0 + 15`, the weights, and the biases end to end. -/
structure Blocks (P : Params) (X : ℕ → Rows) (n0 : ℕ) (x0 : S16x64x512.Idx → EReal) (x1 x2 x3 x4 : S512x1024.Idx → EReal)
    (x5 : S1x2048.Idx → EReal) : Prop where
  input : ∀ (s : Fin 16) (r : Fin 64) (k : Fin 512), x0 (ix3 s r k) = X (n0 + s.val) r k
  weight : ∀ (q : Fin 4) (j : Fin 512) (k : Fin 1024), (![x1, x2, x3, x4] : Fin 4 → S512x1024.Idx → EReal) q (ix2 j k) = P.W q j k
  bias : ∀ (q : Fin 4) (j : Fin 512), x5 (ix2 (0 : Fin 1) (col q j)) = P.b q j

/-- An outputs block whose stores are sixteen of the step states holds, at `(s, r, j)`, the state after step `s`. -/
theorem out_stored {sig : RefSig} {κ : Kind} {sp : Space} (v : View sig κ sp S16x64x512 .f32) (hs : ℕ → S64x512.Idx → EReal)
    (L : List (View.Piece (Elt Ideal) S16x64x512 .f32)) (e : L = outPieces (F := Ideal) hs 16) (s : Fin 16) (r : Fin 64) (j : Fin 512) :
    (v.read (Elt Ideal) (v.writes (Elt Ideal) v.junk L) : S16x64x512.Idx → EReal) (ix3 s r j) = hs s.val (ix2 r j) := by
  subst e
  exact (congrFun (View.read_writes_junk_eq_canon v _) _).trans (outPieces_apply hs r j s 16 le_rfl s.isLt)

/-- A state whose last store is `h` holds `h`. -/
theorem state_stored {sig : RefSig} {κ : Kind} {sp : Space} (v : View sig κ sp S64x512 .f32) (h : S64x512.Idx → EReal)
    (L L' : List (View.Piece (Elt Ideal) S64x512 .f32)) (e : L = statePiece (F := Ideal) h :: L') :
    v.read (Elt Ideal) (v.writes (Elt Ideal) v.junk L) = h := by
  subst e
  exact (View.read_writes_junk_eq_canon v _).trans (state_canon h L')

/-- A final state stored as `h` holds `h`. -/
theorem result_stored {sig : RefSig} {κ : Kind} {sp : Space} (v : View sig κ sp S64x512 .f32) (h : S64x512.Idx → EReal)
    (L : List (View.Piece (Elt Ideal) S64x512 .f32)) (e : L = [resultPiece (F := Ideal) h]) :
    v.read (Elt Ideal) (v.writes (Elt Ideal) v.junk L) = h := by
  subst e
  exact (View.read_writes_junk_eq_canon v _).trans (result_canon h [])

variable (c : Dev nD) (i : grid0.Coords)
  (arg1 : Memref sig .tc .vmem S16x64x512 .f32) (harg1 : arg1.IsWhole) (arg2 : Memref sig .tc .vmem S512x1024 .f32) (harg2 : arg2.IsWhole)
  (arg3 : Memref sig .tc .vmem S512x1024 .f32) (harg3 : arg3.IsWhole) (arg4 : Memref sig .tc .vmem S512x1024 .f32) (harg4 : arg4.IsWhole)
  (arg5 : Memref sig .tc .vmem S512x1024 .f32) (harg5 : arg5.IsWhole) (arg6 : Memref sig .tc .vmem S1x2048 .f32) (harg6 : arg6.IsWhole)
  (arg7 : Memref sig .tc .vmem S16x64x512 .f32) (harg7 : arg7.IsWhole) (arg8 : Memref sig .tc .vmem S64x512 .f32) (harg8 : arg8.IsWhole)
  (arg9 : Memref sig .tc .vmem S64x512 .f32) (harg9 : arg9.IsWhole) (arg10 : Memref sig .tc .vmem S64x512 .f32) (harg10 : arg10.IsWhole)
  (arg11 : Memref sig .tc .vmem S64x512 .f32) (harg11 : arg11.IsWhole) (arg12 : Memref sig .tc .vmem S512x2048 .bf16) (harg12 : arg12.IsWhole)
  (arg13 : Memref sig .tc .vmem S1024x2048 .f32) (harg13 : arg13.IsWhole)
  (x0 : S16x64x512.Idx → EReal) (x1 : S512x1024.Idx → EReal) (x2 : S512x1024.Idx → EReal) (x3 : S512x1024.Idx → EReal) (x4 : S512x1024.Idx → EReal)
  (x5 : S1x2048.Idx → EReal) (xs0 : S64x512.Idx → EReal) (xs1 : S64x512.Idx → EReal) (xs2 : S512x2048.Idx → EReal)
  (P : Params) (X : ℕ → Rows) (n0 : ℕ)

/-- The load of columns `[lo, lo + 512)` of gate `q`'s weights, at a position. -/
theorem wLoad_apply (H : Blocks P X n0 x0 x1 x2 x3 x4 x5) (lo : ℕ) (h : lo + 512 ≤ 1024) (q : Fin 4) (j k : Fin 512) (k' : Fin 1024)
    (hk : k'.val = lo + k.val) :
    (wLoad (F := Ideal) arg2 harg2 arg3 harg3 arg4 harg4 arg5 harg5 x1 x2 x3 x4 lo h q : S512x512.Idx → EReal) (ix2 j k) = P.W q j k' := by
  rw [← H.weight]
  match q with
  | 0 => exact w_load arg2 harg2 x1 lo h j k k' hk
  | 1 => exact w_load arg3 harg3 x2 lo h j k k' hk
  | 2 => exact w_load arg4 harg4 x3 lo h j k k' hk
  | 3 => exact w_load arg5 harg5 x4 lo h j k k' hk

/-- The share of the input that step `s` loads is the network's. -/
theorem preB_apply (H : Blocks P X n0 x0 x1 x2 x3 x4 x5) (s : ℕ) (hs : s < 16) (q : Fin 4) (r : Fin 64) (j : Fin 512) :
    (preB (F := Ideal) arg1 harg1 arg2 harg2 arg3 harg3 arg4 harg4 arg5 harg5 arg6 harg6 arg13 x0 x1 x2 x3 x4 x5 s q : S64x512.Idx → EReal) (ix2 r j) = share P (X (n0 + s)) q r j := by
  unfold preB
  refine (preAt_apply _ _ _ _ ⟨s, hs⟩ q r j).trans ?_
  rw [x_load, b_load, H.bias]
  refine congrArg (· + P.b q j) (Finset.sum_congr rfl fun k _ => ?_)
  rw [H.input]
  exact congrArg (X (n0 + s) r k * ·) (wLoad_apply arg2 harg2 arg3 harg3 arg4 harg4 arg5 harg5 x0 x1 x2 x3 x4 x5 P X n0 H 0 _ q j k (Fin.castAdd 512 k) (Nat.zero_add _).symm)

/-- The steps of the first point are the network's first sixteen. -/
theorem rollA_rows (H : Blocks P X 0 x0 x1 x2 x3 x4 x5) (n : ℕ) (hn : n ≤ 16) :
    rows (rollA (F := Ideal) arg1 harg1 arg2 harg2 arg3 harg3 arg4 harg4 arg5 harg5 arg6 harg6 arg10 arg11 arg12 arg13 x0 x1 x2 x3 x4 x5 n).1 = (seq P X n).1 ∧ rows (rollA (F := Ideal) arg1 harg1 arg2 harg2 arg3 harg3 arg4 harg4 arg5 harg5 arg6 harg6 arg10 arg11 arg12 arg13 x0 x1 x2 x3 x4 x5 n).2 = (seq P X n).2 := by
  have hz : rows (zeroState (F := Ideal)) = fun _ _ => 0 := funext fun r => funext fun j => word_zero
  have e := roll_rows (n0 := 0) (P := P) (X := X)
    (p := preB (F := Ideal) arg1 harg1 arg2 harg2 arg3 harg3 arg4 harg4 arg5 harg5 arg6 harg6 arg13 x0 x1 x2 x3 x4 x5)
    (w := fun q => arg12.view.readCov (whtA (F := Ideal) arg2 harg2 arg3 harg3 arg4 harg4 arg5 harg5 x1 x2 x3 x4) (whtRect q).toLoadRect)
    (h0 := arg10.view.readCov [statePiece (F := Ideal) zeroState] hRect.toLoadRect)
    (c0 := arg11.view.readCov [statePiece (F := Ideal) zeroState] hRect.toLoadRect)
    (fun s hs q r j => preB_apply arg1 harg1 arg2 harg2 arg3 harg3 arg4 harg4 arg5 harg5 arg6 harg6 arg13 x0 x1 x2 x3 x4 x5 P X 0 H s hs q r j)
    (fun q k j => (wht_loadCov arg12.view _ q k j).trans
      (wLoad_apply arg2 harg2 arg3 harg3 arg4 harg4 arg5 harg5 x0 x1 x2 x3 x4 x5 P X 0 H 512 _ q j k (Fin.natAdd 512 k) rfl))
    ((congrArg rows (state_loadCov arg10.view (zeroState (F := Ideal)))).trans hz)
    ((congrArg rows (state_loadCov arg11.view (zeroState (F := Ideal)))).trans hz) n hn
  rw [Nat.zero_add] at e
  exact e

/-- The steps of a later point go on from the state carried to it. -/
theorem rollB_rows (H : Blocks P X n0 x0 x1 x2 x3 x4 x5) (hh : rows xs0 = (seq P X n0).1) (hc : rows xs1 = (seq P X n0).2)
    (hw : ∀ (q : Fin 4) (k j : Fin 512), xs2 (ix2 k (col q j)) = P.W q j (Fin.natAdd 512 k)) (n : ℕ) (hn : n ≤ 16) :
    rows (rollB (F := Ideal) arg1 harg1 arg2 harg2 arg3 harg3 arg4 harg4 arg5 harg5 arg6 harg6 arg10 harg10 arg11 harg11 arg12 harg12 arg13 x0 x1 x2 x3 x4 x5 xs0 xs1 xs2 n).1 = (seq P X (n0 + n)).1 ∧ rows (rollB (F := Ideal) arg1 harg1 arg2 harg2 arg3 harg3 arg4 harg4 arg5 harg5 arg6 harg6 arg10 harg10 arg11 harg11 arg12 harg12 arg13 x0 x1 x2 x3 x4 x5 xs0 xs1 xs2 n).2 = (seq P X (n0 + n)).2 :=
  roll_rows (n0 := n0) (P := P) (X := X)
    (p := preB (F := Ideal) arg1 harg1 arg2 harg2 arg3 harg3 arg4 harg4 arg5 harg5 arg6 harg6 arg13 x0 x1 x2 x3 x4 x5)
    (w := fun q => arg12.view.readAt (Elt Ideal) (whtRect q).toLoadRect (harg12.unread xs2))
    (h0 := arg10.view.readAt (Elt Ideal) hRect.toLoadRect (harg10.unread xs0))
    (c0 := arg11.view.readAt (Elt Ideal) hRect.toLoadRect (harg11.unread xs1))
    (fun s hs q r j => preB_apply arg1 harg1 arg2 harg2 arg3 harg3 arg4 harg4 arg5 harg5 arg6 harg6 arg13 x0 x1 x2 x3 x4 x5 P X n0 H s hs q r j)
    (fun q k j => (wht_load arg12 harg12 xs2 q k j).trans (hw q k j))
    ((congrArg rows (state_load arg10 harg10 xs0)).trans hh)
    ((congrArg rows (state_load arg11 harg11 xs1)).trans hc) n hn

/-- The first point. -/
theorem point_A (hc0 : cond0_0 i) (hc1 : ¬cond0_1 i) (H : Blocks P X 0 x0 x1 x2 x3 x4 x5) :
    (∀ (s : Fin 16) (r : Fin 64) (j : Fin 512), (out0_A_6 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 : S16x64x512.Idx → EReal) (ix3 s r j) = (seq P X (s.val + 1)).1 r j)
      ∧ rows (sout0_A_0 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5) = (seq P X 16).1
      ∧ rows (sout0_A_1 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5) = (seq P X 16).2
      ∧ (∀ (q : Fin 4) (k j : Fin 512), (sout0_A_2 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 : S512x2048.Idx → EReal) (ix2 k (col q j)) = P.W q j (Fin.natAdd 512 k)) := by
  have R := rollA_rows arg1 harg1 arg2 harg2 arg3 harg3 arg4 harg4 arg5 harg5 arg6 harg6 arg10 arg11 arg12 arg13 x0 x1 x2 x3 x4 x5 P X H
  have K := run_A (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 hc0 hc1
  unfold out0_A_6 sout0_A_0 sout0_A_1 sout0_A_2
  refine ⟨fun s r j => (out_stored VO0_6 _ _ K.1 s r j).trans (congrFun (congrFun (R (s.val + 1) (by omega)).1 r) j),
    (congrArg rows (state_stored VS0_0 _ _ _ K.2.1)).trans (R 16 le_rfl).1,
    (congrArg rows (state_stored VS0_1 _ _ _ K.2.2.1)).trans (R 16 le_rfl).2, fun q k j => ?_⟩
  refine (congrFun (View.read_writes_junk_eq_canon VS0_2 _) _).trans ((congrFun (congrArg View.canon K.2.2.2) _).trans ?_)
  exact (wht_canon _ q k j).trans (wLoad_apply arg2 harg2 arg3 harg3 arg4 harg4 arg5 harg5 x0 x1 x2 x3 x4 x5 P X 0 H 512 _ q j k (Fin.natAdd 512 k) rfl)

/-- A point between the first and the last. -/
theorem point_B (hc0 : ¬cond0_0 i) (hc1 : ¬cond0_1 i) (H : Blocks P X n0 x0 x1 x2 x3 x4 x5) (hh : rows xs0 = (seq P X n0).1)
    (hc : rows xs1 = (seq P X n0).2) (hw : ∀ (q : Fin 4) (k j : Fin 512), xs2 (ix2 k (col q j)) = P.W q j (Fin.natAdd 512 k)) :
    (∀ (s : Fin 16) (r : Fin 64) (j : Fin 512), (out0_B_6 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 : S16x64x512.Idx → EReal) (ix3 s r j) = (seq P X (n0 + s.val + 1)).1 r j)
      ∧ rows (sout0_B_0 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2) = (seq P X (n0 + 16)).1
      ∧ rows (sout0_B_1 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2) = (seq P X (n0 + 16)).2 := by
  have R := rollB_rows arg1 harg1 arg2 harg2 arg3 harg3 arg4 harg4 arg5 harg5 arg6 harg6 arg10 harg10 arg11 harg11 arg12 harg12 arg13 x0 x1 x2 x3 x4 x5 xs0 xs1 xs2 P X n0 H hh hc hw
  have K := run_B (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 xs0 xs1 xs2 hc0 hc1
  unfold out0_B_6 sout0_B_0 sout0_B_1
  exact ⟨fun s r j => (out_stored VO0_6 _ _ K.1 s r j).trans (congrFun (congrFun (R (s.val + 1) (by omega)).1 r) j),
    (congrArg rows (state_stored VS0_0 _ _ _ K.2.1)).trans (R 16 le_rfl).1,
    (congrArg rows (state_stored VS0_1 _ _ _ K.2.2)).trans (R 16 le_rfl).2⟩

/-- The last point, which also stores the final hidden state and cell. -/
theorem point_C (hc0 : ¬cond0_0 i) (hc1 : cond0_1 i) (H : Blocks P X n0 x0 x1 x2 x3 x4 x5) (hh : rows xs0 = (seq P X n0).1)
    (hc : rows xs1 = (seq P X n0).2) (hw : ∀ (q : Fin 4) (k j : Fin 512), xs2 (ix2 k (col q j)) = P.W q j (Fin.natAdd 512 k)) :
    (∀ (s : Fin 16) (r : Fin 64) (j : Fin 512), (out0_C_6 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 : S16x64x512.Idx → EReal) (ix3 s r j) = (seq P X (n0 + s.val + 1)).1 r j)
      ∧ rows (out0_C_7 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2) = (seq P X (n0 + 16)).2
      ∧ rows (out0_C_8 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2) = (seq P X (n0 + 16)).1 := by
  have R := rollB_rows arg1 harg1 arg2 harg2 arg3 harg3 arg4 harg4 arg5 harg5 arg6 harg6 arg10 harg10 arg11 harg11 arg12 harg12 arg13 x0 x1 x2 x3 x4 x5 xs0 xs1 xs2 P X n0 H hh hc hw
  have K := run_C (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 xs0 xs1 xs2 hc0 hc1
  unfold out0_C_6 out0_C_7 out0_C_8
  exact ⟨fun s r j => (out_stored VO0_6 _ _ K.1 s r j).trans (congrFun (congrFun (R (s.val + 1) (by omega)).1 r) j),
    (congrArg rows (result_stored VO0_7 _ _ K.2.1)).trans (R 16 le_rfl).2,
    (congrArg rows (result_stored VO0_8 _ _ K.2.2)).trans (R 16 le_rfl).1⟩

end Cert.Lstm.Block

end
-- ==== Proof.Entry.lean ====
/-
  What the blocks of each grid point hold: sixteen steps of the inputs, the four weight arrays whole, and the four
  biases end to end, each in terms of the program's arguments.
-/
module

public import proofs.«01_k».proof.Proof.Points
public import proofs.«01_k».proof.Proof.Gen.KernelIdeal.Value
public import Idealize.ShloMosaic.Lib.ValueLayout
public import Idealize.ShloMosaic.Lib.Claim
public import Idealize.ShloMosaic.Lib.Pipeline.ValueKit

@[expose] public section

noncomputable section

namespace Cert.Lstm.Block

open Idealize.ShloMosaic hiding ix1 ix2 ix3 addf_apply mulf_apply
open Idealize.ShloMosaic.TcCoe
open Idealize.ShloMosaic.ValueIdx
open Cert.KernelIdeal Cert.KernelIdeal.Gen
open Idealize.SL Idealize.SL.Sem

variable (m : (ℓ : Loc nD τ sig) → Buf (Elt Ideal) ℓ) (c : Dev nD)

/-- The network's weights and biases, from the program's arguments. -/
def params : Params :=
  ofArrays (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))
    (m ((c : Thread nD τ).loc main_arg7)) (m ((c : Thread nD τ).loc main_arg8))

/-- The network's inputs, from the program's first argument. -/
def steps : ℕ → Rows := inputs (m ((c : Thread nD τ).loc main_arg0))

/-- Where each input window's block lies: the inputs' at the point's number, every other at the origin. -/
theorem places : ∀ t : Fin cfg0.N,
    (win0_0.index t 0 = t.val ∧ win0_0.index t 1 = 0 ∧ win0_0.index t 2 = 0)
      ∧ (win0_1.index t 0 = 0 ∧ win0_1.index t 1 = 0) ∧ (win0_2.index t 0 = 0 ∧ win0_2.index t 1 = 0)
      ∧ (win0_3.index t 0 = 0 ∧ win0_3.index t 1 = 0) ∧ (win0_4.index t 0 = 0 ∧ win0_4.index t 1 = 0)
      ∧ (win0_5.index t 0 = 0 ∧ win0_5.index t 1 = 0) :=
  (by decide +kernel : ∀ t : Fin grid0.N, _)

/-- The inputs block of point `t`. -/
theorem input_block (t : Fin cfg0.N) (s : Fin 16) (r : Fin 64) (k : Fin 512) :
    (iblk m c 0 t : S16x64x512.Idx → EReal) (ix3 s r k) = steps m c (16 * t.val + s.val) r k := by
  have ht : t.val < 32 := lt_of_lt_of_eq t.isLt N_0
  have e : (Fin.ofNat 512 (16 * t.val + s.val) : Fin 512) = ⟨16 * t.val + s.val, by omega⟩ :=
    Fin.ext (Nat.mod_eq_of_lt (by omega))
  unfold steps inputs
  rw [e]
  blk_ext! [iblk, V, places t]
  exact Nat.add_right_cancel_iff.mpr (Nat.mul_comm _ _)

/-- The weights' windows hold the weight arrays. -/
theorem weight_block (t : Fin cfg0.N) (q : Fin 4) (j : Fin 512) (k : Fin 1024) :
    (![iblk m c 1 t, iblk m c 2 t, iblk m c 3 t, iblk m c 4 t] : Fin 4 → S512x1024.Idx → EReal) q (ix2 j k) = (params m c).W q j k := by
  match q with
  | 0 => show (iblk m c 1 t : S512x1024.Idx → EReal) (ix2 j k) = m ((c : Thread nD τ).loc main_arg1) (ix2 j k); blk_ext! [iblk, V, places t]
  | 1 => show (iblk m c 2 t : S512x1024.Idx → EReal) (ix2 j k) = m ((c : Thread nD τ).loc main_arg3) (ix2 j k); blk_ext! [iblk, V, places t]
  | 2 => show (iblk m c 3 t : S512x1024.Idx → EReal) (ix2 j k) = m ((c : Thread nD τ).loc main_arg5) (ix2 j k); blk_ext! [iblk, V, places t]
  | 3 => show (iblk m c 4 t : S512x1024.Idx → EReal) (ix2 j k) = m ((c : Thread nD τ).loc main_arg7) (ix2 j k); blk_ext! [iblk, V, places t]

/-- A position of four vectors end to end is a position of one of them. -/
theorem joined_apply (b0 b1 b2 b3 : S512.Idx → EReal) (q : Fin 4) (j : Fin 512) :
    concatenate S2048 0 [⟨S512, b0⟩, ⟨S512, b1⟩, ⟨S512, b2⟩, ⟨S512, b3⟩] concatenates_S512_S512_S512_S512_S2048_d0 (ix1 (col q j))
      = (![b0, b1, b2, b3] : Fin 4 → S512.Idx → EReal) q (ix1 j) :=
  concatenate_apply_piece (t := S2048) 0 [⟨S512, b0⟩, ⟨S512, b1⟩, ⟨S512, b2⟩, ⟨S512, b3⟩] concatenates_S512_S512_S512_S512_S2048_d0
    (ix1 (col q j)) q.val q.isLt S512 ((![b0, b1, b2, b3] : Fin 4 → S512.Idx → EReal) q)
    (by match q with | 0 => rfl | 1 => rfl | 2 => rfl | 3 => rfl) rfl (512 * q.val)
    (by match q with | 0 => rfl | 1 => rfl | 2 => rfl | 3 => rfl) (ix1 j)
    (fun b hb => absurd (Subsingleton.elim (α := Fin 1) _ _) hb) rfl

/-- The biases, gate after gate. -/
theorem bias_block (t : Fin cfg0.N) (q : Fin 4) (j : Fin 512) :
    (iblk m c 5 t : S1x2048.Idx → EReal) (ix2 (0 : Fin 1) (col q j)) = (params m c).b q j := by
  have h : (iblk m c 5 t : S1x2048.Idx → EReal) (ix2 (0 : Fin 1) (col q j)) = V m c main_v1 (ix2 (0 : Fin 1) (col q j)) := by
    blk_ext [iblk, places t]
  rw [h]
  entry_read
  exact (shapeCast_a_1a_apply _ _ 0 (col q j)).trans (joined_apply _ _ _ _ q j)

/-- The blocks of point `t` hold the network's inputs from step `16 t` on, its weights and its biases. -/
theorem blocks (t : Fin cfg0.N) :
    Blocks (params m c) (steps m c) (16 * t.val) (iblk m c 0 t) (iblk m c 1 t) (iblk m c 2 t) (iblk m c 3 t) (iblk m c 4 t) (iblk m c 5 t) :=
  ⟨input_block m c t, weight_block m c t, bias_block m c t⟩

end Cert.Lstm.Block

end
-- ==== Proof.Results.lean ====
/-
  The kernel's results: by induction over the grid points, each point starts from the network's state after the steps
  of the points before it, so the outputs are the hidden states of all 512 steps and the two final results the last
  hidden state and cell.
-/
module

public import proofs.«01_k».proof.Proof.Entry

@[expose] public section

noncomputable section

namespace Cert.Lstm.Block

open Idealize.ShloMosaic hiding ix1 ix2 ix3 addf_apply mulf_apply
open Idealize.ShloMosaic.TcCoe
open Idealize.ShloMosaic.ValueIdx
open Cert.KernelIdeal Cert.KernelIdeal.Gen Cert.KernelIdeal.Value
open Idealize.SL Idealize.SL.Sem

/-- What a point leaves: its blocks of the three results, the hidden state and cell it carries on, and the recurrent weights. -/
abbrev Left : Type :=
  Vec Ideal S16x64x512 .f32 × Vec Ideal S64x512 .f32 × Vec Ideal S64x512 .f32 × Vec Ideal S64x512 .f32 × Vec Ideal S64x512 .f32
    × Vec Ideal S512x2048 .bf16

/-- After point `n`: its outputs are the hidden states of steps `16 n … 16 n + 15`, and it carries on the network's state
    and the transposed recurrent weights. -/
structure After (P : Params) (X : ℕ → Rows) (n : ℕ) (st : Left) : Prop where
  out : ∀ (s : Fin 16) (r : Fin 64) (j : Fin 512), (st.1 : S16x64x512.Idx → EReal) (ix3 s r j) = (seq P X (16 * n + s.val + 1)).1 r j
  h : rows st.2.2.2.1 = (seq P X (16 * n + 16)).1
  c : rows st.2.2.2.2.1 = (seq P X (16 * n + 16)).2
  w : ∀ (q : Fin 4) (k j : Fin 512), (st.2.2.2.2.2 : S512x2048.Idx → EReal) (ix2 k (col q j)) = P.W q j (Fin.natAdd 512 k)

variable (m : (ℓ : Loc nD τ sig) → Buf (Elt Ideal) ℓ) (c : Dev nD)

/-- The first point. -/
theorem first (t : Fin cfg0.N) (ht : t.val = 0) (acc : Left) : After (params m c) (steps m c) 0 (stAt0 m c t.val t.isLt acc) := by
  have H : Blocks (params m c) (steps m c) 0 (iblk m c 0 t) (iblk m c 1 t) (iblk m c 2 t) (iblk m c 3 t) (iblk m c 4 t) (iblk m c 5 t) := by
    have e := blocks m c t
    rw [ht] at e
    exact e
  rw [stAt0_A m c t acc (by omega) (by omega)]
  have K := point_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (params m c) (steps m c)
    ((hcond0_0 t).mpr (by omega)) (fun h => absurd ((hcond0_1 t).mp h) (by omega)) H
  refine ⟨fun s r j => ?_, ?_, ?_, ?_⟩
  · dsimp only
    rw [Nat.mul_zero, Nat.zero_add]
    exact K.1 s r j
  · dsimp only
    exact K.2.1
  · dsimp only
    exact K.2.2.1
  · dsimp only
    exact K.2.2.2

/-- A point between the first and the last goes on from the one before it. -/
theorem next (t : Fin cfg0.N) (n : ℕ) (ht : t.val = n + 1) (hn : n + 1 < 31) (acc : Left) (ih : After (params m c) (steps m c) n acc) :
    After (params m c) (steps m c) (n + 1) (stAt0 m c t.val t.isLt acc) := by
  have H : Blocks (params m c) (steps m c) (16 * (n + 1)) (iblk m c 0 t) (iblk m c 1 t) (iblk m c 2 t) (iblk m c 3 t) (iblk m c 4 t) (iblk m c 5 t) := by
    have e := blocks m c t
    rw [ht] at e
    exact e
  rw [stAt0_B m c t acc (by omega) (by omega)]
  have K := point_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) acc.2.2.2.1 acc.2.2.2.2.1 acc.2.2.2.2.2 (params m c) (steps m c) (16 * (n + 1))
    (fun h => absurd ((hcond0_0 t).mp h) (by omega)) (fun h => absurd ((hcond0_1 t).mp h) (by omega)) H ih.h ih.c ih.w
  refine ⟨?_, ?_, ?_, ?_⟩
  · dsimp only
    exact K.1
  · dsimp only
    exact K.2.1
  · dsimp only
    exact K.2.2
  · dsimp only
    exact ih.w

/-- The last point: its outputs, the final cell and the final hidden state. -/
theorem last (t : Fin cfg0.N) (ht : t.val = 31) (acc : Left) (ih : After (params m c) (steps m c) 30 acc) :
    (∀ (s : Fin 16) (r : Fin 64) (j : Fin 512), ((stAt0 m c t.val t.isLt acc).1 : S16x64x512.Idx → EReal) (ix3 s r j)
        = (seq (params m c) (steps m c) (16 * 31 + s.val + 1)).1 r j)
      ∧ rows (stAt0 m c t.val t.isLt acc).2.1 = (seq (params m c) (steps m c) 512).2
      ∧ rows (stAt0 m c t.val t.isLt acc).2.2.1 = (seq (params m c) (steps m c) 512).1 := by
  have H : Blocks (params m c) (steps m c) (16 * 31) (iblk m c 0 t) (iblk m c 1 t) (iblk m c 2 t) (iblk m c 3 t) (iblk m c 4 t) (iblk m c 5 t) := by
    have e := blocks m c t
    rw [ht] at e
    exact e
  rw [stAt0_C m c t acc (by omega) (by omega)]
  have K := point_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) acc.2.2.2.1 acc.2.2.2.2.1 acc.2.2.2.2.2 (params m c) (steps m c) (16 * 31)
    (fun h => absurd ((hcond0_0 t).mp h) (by omega)) ((hcond0_1 t).mpr (by omega)) H ih.h ih.c ih.w
  refine ⟨?_, ?_, ?_⟩
  · dsimp only
    exact K.1
  · dsimp only
    exact K.2.1
  · dsimp only
    exact K.2.2

/-- What the points up to number `n` leave. -/
abbrev left (n : ℕ) (h : 0 + n < cfg0.N) : Left := Pipeline.accAt (fun n h => stAt0 m c n h junk0) (stAt0 m c) 0 n h

/-- After every point but the last. -/
theorem after : ∀ (n : ℕ) (h : 0 + n < cfg0.N), n < 31 → After (params m c) (steps m c) n (left m c n h)
  | 0, h, _ => first m c ⟨0 + 0, h⟩ rfl junk0
  | n + 1, h, hn => next m c ⟨0 + (n + 1), h⟩ n (Nat.zero_add _) hn _ (after n (Nat.lt_of_succ_lt h) (by omega))

/-- After the last point. -/
theorem after_last (h : 0 + 31 < cfg0.N) :
    (∀ (s : Fin 16) (r : Fin 64) (j : Fin 512), ((left m c 31 h).1 : S16x64x512.Idx → EReal) (ix3 s r j)
        = (seq (params m c) (steps m c) (16 * 31 + s.val + 1)).1 r j)
      ∧ rows (left m c 31 h).2.1 = (seq (params m c) (steps m c) 512).2
      ∧ rows (left m c 31 h).2.2.1 = (seq (params m c) (steps m c) 512).1 :=
  last m c ⟨0 + 31, h⟩ rfl _ (after m c 30 (Nat.lt_of_succ_lt h) (by omega))

/-- Every point's outputs are the hidden states of its sixteen steps. -/
theorem left_out (n : ℕ) (h : 0 + n < cfg0.N) (s : Fin 16) (r : Fin 64) (j : Fin 512) :
    ((left m c n h).1 : S16x64x512.Idx → EReal) (ix3 s r j) = (seq (params m c) (steps m c) (16 * n + s.val + 1)).1 r j := by
  have hN : 0 + n < 32 := lt_of_lt_of_eq h N_0
  by_cases hn : n < 31
  · exact (after m c n h hn).out s r j
  · obtain rfl : n = 31 := by omega
    exact (after_last m c h).1 s r j

/-- The outputs: the hidden state after every step. -/
theorem outputs_apply (t : Fin 512) (r : Fin 64) (j : Fin 512) :
    (G6 m c : S512x64x512.Idx → EReal) (ix3 t r j) = (seq (params m c) (steps m c) (t.val + 1)).1 r j := by
  have hp : pt6Of (ix3 t r j) = t.val / 16 := by
    show 1 * (t.val / 16 - 0) + 1 * (r.val / 64 - 0) + 1 * (j.val / 512 - 0) = t.val / 16
    omega
  have hl : loc6Of (ix3 t r j) = ix3 (⟨t.val % 16, Nat.mod_lt _ (by decide)⟩ : Fin 16) r j := by
    funext a
    refine Fin.ext ?_
    match a with
    | ⟨0, _⟩ => rfl
    | ⟨1, _⟩ => exact Nat.mod_eq_of_lt r.isLt
    | ⟨2, _⟩ => exact Nat.mod_eq_of_lt j.isLt
  have hlt : pt6Of (ix3 t r j) < cfg0.N := by rw [hp]; exact lt_of_lt_of_eq (by omega) N_0.symm
  refine (dif_pos hlt).trans ?_
  rw [hl]
  refine (left_out m c _ _ _ r j).trans ?_
  rw [hp]
  show (seq _ _ (16 * (t.val / 16) + t.val % 16 + 1)).1 r j = _
  rw [Nat.div_add_mod]

/-- The final cell. -/
theorem cell_rows : rows (G7 m c) = (seq (params m c) (steps m c) 512).2 := by
  rw [G7_last]
  exact (after_last m c _).2.1

/-- The final hidden state. -/
theorem hidden_rows : rows (G8 m c) = (seq (params m c) (steps m c) 512).1 := by
  rw [G8_last]
  exact (after_last m c _).2.2

end Cert.Lstm.Block

end
-- ==== Proof.Reference.lean ====
/-
  What the reference computes, at the ideal values: after `n` trips its loop holds the hidden state and the cell of `n`
  steps, and rows `0 … n - 1` of its outputs hold the hidden states of those steps.
-/
module

public import proofs.«01_k».proof.Proof.Sigmoid
public import proofs.«01_k».proof.Proof.Spec
public import proofs.«01_k».proof.Proof.Gen.ReferenceIdeal.Run
public import Idealize.ShloMosaic.Lib.ValueIdx
public import Idealize.ShloMosaic.Lib.ValueLayout
public import Idealize.ShloMosaic.Lib.StackMember
public import Idealize.ShloMosaic.Lib.DynamicIndex
public import Idealize.ShloMosaic.Lib.Pipeline.Value
public import Idealize.ShloMosaic.Lib.Pointwise

@[expose] public section

noncomputable section

namespace Cert.Lstm.Ref

open Idealize.ShloMosaic hiding ix1 ix2 ix3 addf_apply mulf_apply
open Idealize.ShloMosaic.ValueIdx Idealize.ShloMosaic.StackMember Idealize.ShloMosaic.StableHlo
open Idealize.ShloMosaic.Tactic Idealize.SL.Sem
open Cert.ReferenceIdeal Cert.ReferenceIdeal.Gen Cert.ReferenceIdeal.Value
open scoped BigOperators

/-- The block at offset `n` of the inputs, sliced out and reshaped, is the input of step `n`. -/
theorem sliced (X : S512x64x512.Idx → EReal) (start : Fin 3 → ℤ) (n : ℕ) (hn : n < 512)
    (h0 : start 0 = n) (h1 : start 1 = 0) (h2 : start 2 = 0) (r : Fin 64) (k : Fin 512) :
    shapeCast S64x512 (Host.dynamicSlice S1x64x512 X start sliceFits_S512x64x512_S1x64x512) shapeCasts_S1x64x512_S64x512
      (ix2 r k) = inputs X n r k := by
  rw [shapeCast_1ab_ab_apply,
    Host.dynamicSlice_eq_extractStridedSlice S1x64x512 X start ![n, 0, 0] _
    ⟨rfl, fun a => by
      match a with
      | ⟨0, _⟩ => show n + 1 ≤ 512; omega
      | ⟨1, _⟩ => show 0 + 64 ≤ 64; omega
      | ⟨2, _⟩ => show 0 + 512 ≤ 512; omega⟩
    (fun a => by
      match a with
      | ⟨0, _⟩ => exact h0
      | ⟨1, _⟩ => exact h1
      | ⟨2, _⟩ => exact h2)]
  unfold extractStridedSlice inputs
  refine congrArg X (funext fun a => Fin.ext ?_)
  match a with
  | ⟨0, _⟩ => show n + 0 = n % 512; omega
  | ⟨1, _⟩ => show 0 + r.val = r.val; omega
  | ⟨2, _⟩ => show 0 + k.val = k.val; omega

/-- The input of a step and the hidden state, side by side: the first 512 columns are the input's. -/
theorem joined_left (A B : S64x512.Idx → EReal) (r : Fin 64) (k : Fin 512) :
    concatenate S64x1024 1 [⟨S64x512, A⟩, ⟨S64x512, B⟩] concatenates_S64x512_S64x512_S64x1024_d1 (ix2 r (Fin.castAdd 512 k))
      = A (ix2 r k) :=
  concatenate_pair_apply_left (t := S64x1024) 1 A B _ _ rfl (ix2 r k) (fun b => by
    match b with
    | ⟨0, _⟩ => rfl
    | ⟨1, _⟩ => rfl)

/-- The last 512 columns are the hidden state's. -/
theorem joined_right (A B : S64x512.Idx → EReal) (r : Fin 64) (k : Fin 512) :
    concatenate S64x1024 1 [⟨S64x512, A⟩, ⟨S64x512, B⟩] concatenates_S64x512_S64x512_S64x1024_d1 (ix2 r (Fin.natAdd 512 k))
      = B (ix2 r k) :=
  concatenate_pair_apply_right (t := S64x1024) 1 A B _ _ rfl rfl (ix2 r k) (fun b => by
    match b with
    | ⟨0, _⟩ => intro _; rfl
    | ⟨1, _⟩ => intro h; exact absurd rfl h) (Nat.add_comm _ _)

/-- One gate of a trip before its activation, as the reference forms it of the joined matrix `z`, weights and bias. -/
def pregate (z : S64x1024.Idx → EReal) (w : S512x1024.Idx → EReal) (b : S512.Idx → EReal) : S64x512.Idx → EReal :=
  addf (F := Ideal) (φ := .f32)
    (Host.dotGeneral (φ₁ := .f32) (φ₂ := .f32) dot_S64x1024_S1024x512_S64x512_1_0_0_1_n_n none z
      (transpose S1024x512 [1, 0] w transposes_S512x1024_S1024x512_1_0))
    (broadcastInDim S64x512 ![0, 1] bcast_S1x512_S64x512_0_1 (broadcastInDim S1x512 ![1] bcast_S512_S1x512_1 b))

/-- It is the gate of the network. -/
theorem pregate_apply (P : Params) (x h : Rows) (q : Fin 4) (z : S64x1024.Idx → EReal)
    (hx : ∀ r k, z (ix2 r (Fin.castAdd 512 k)) = x r k) (hh : ∀ r k, z (ix2 r (Fin.natAdd 512 k)) = h r k)
    (w : S512x1024.Idx → EReal) (b : S512.Idx → EReal)
    (hw : ∀ j k, w (ix2 j k) = P.W q j k) (hb : ∀ j, b (ix1 j) = P.b q j) (r : Fin 64) (j : Fin 512) :
    pregate z w b (ix2 r j) = gate P x h q r j := by
  unfold pregate
  rw [addf_apply]
  have hd : dot_S64x1024_S1024x512_S64x512_1_0_0_1_n_n = DotDims.plain 64 1024 512 := rfl
  rw [hd, dotGeneral_plain_apply]
  have e1 : broadcastInDim S64x512 ![0, 1] bcast_S1x512_S64x512_0_1 (broadcastInDim S1x512 ![1] bcast_S512_S1x512_1 b) (ix2 r j)
      = P.b q j := by
    rw [← hb]
    refine (broadcastInDim_apply _ _ _ _ (ix2 (0 : Fin 1) j) fun a => ?_).trans
      (broadcastInDim_apply _ _ _ _ (ix1 j) fun a => ?_)
    · match a with
      | ⟨0, _⟩ => rfl
      | ⟨1, _⟩ => rfl
    · match a with
      | ⟨0, _⟩ => rfl
  have e2 : ∀ k : Fin 1024, transpose S1024x512 [1, 0] w transposes_S512x1024_S1024x512_1_0 (ix2 k j) = P.W q j k := fun k => by
    rw [transpose_ix2_apply, hw]
  rw [e1]
  simp only [e2]
  exact gate_joined P x h q r j (fun k => z (ix2 r k)) (hx r) (hh r)

/-- The sigmoid as the reference forms it: one over one plus the exponential of the negation. -/
def sigmoid (a : S64x512.Idx → EReal) : S64x512.Idx → EReal :=
  Host.divf (F := Ideal) (φ := .f32) (broadcastInDim S64x512 ![] bcast_S_S64x512 (constant S_ .f32 0x3F800000#32))
    (addf (broadcastInDim S64x512 ![] bcast_S_S64x512 (constant S_ .f32 0x3F800000#32)) (Host.exp (Host.negf a)))

/-- It is the logistic function at every position. -/
theorem sigmoid_apply (a : S64x512.Idx → EReal) (i : S64x512.Idx) : sigmoid a i = Ideal.logistic (a i) :=
  one_div_exp (a i)

/-- The outputs after a trip: the block at offset `n` is the new hidden state, the others are as before. -/
theorem updated (Y : S512x64x512.Idx → EReal) (H : S64x512.Idx → EReal) (start : Fin 3 → ℤ) (n : ℕ) (hn : n < 512)
    (h0 : start 0 = n) (h1 : start 1 = 0) (h2 : start 2 = 0) (t : Fin 512) (r : Fin 64) (j : Fin 512) :
    Host.dynamicUpdateSlice Y (broadcastInDim S1x64x512 ![1, 2] bcast_S64x512_S1x64x512_1_2 H) start
      updateFits_S512x64x512_S1x64x512 (ix3 t r j) = if t.val = n then H (ix2 r j) else Y (ix3 t r j) := by
  have hs : Shape.Slices (S512x64x512) ![n, 0, 0] S1x64x512 := ⟨rfl, fun a => by
      match a with
      | ⟨0, _⟩ => show n + 1 ≤ 512; omega
      | ⟨1, _⟩ => show 0 + 64 ≤ 64; omega
      | ⟨2, _⟩ => show 0 + 512 ≤ 512; omega⟩
  have e0 : Host.clampedStart S512x64x512 S1x64x512 rfl start 0 = n :=
    Host.clampedStart_of_le (s := S512x64x512) (t := S1x64x512) rfl start 0 n h0 (by show n + 1 ≤ 512; omega)
  have e1 : Host.clampedStart S512x64x512 S1x64x512 rfl start 1 = 0 :=
    Host.clampedStart_of_le (s := S512x64x512) (t := S1x64x512) rfl start 1 0 h1 (by show 0 + 64 ≤ 64; omega)
  have e2 : Host.clampedStart S512x64x512 S1x64x512 rfl start 2 = 0 :=
    Host.clampedStart_of_le (s := S512x64x512) (t := S1x64x512) rfl start 2 0 h2 (by show 0 + 512 ≤ 512; omega)
  rw [Host.dynamicUpdateSlice_apply]
  by_cases ht : t.val = n
  · rw [if_pos ht, dif_pos (fun a => by
      match a with
      | ⟨0, _⟩ => exact ⟨e0.le.trans ht.ge, by show t.val < Host.clampedStart S512x64x512 S1x64x512 rfl start 0 + 1; omega⟩
      | ⟨1, _⟩ => exact ⟨e1.le.trans (Nat.zero_le _), by
          show r.val < Host.clampedStart S512x64x512 S1x64x512 rfl start 1 + 64; omega⟩
      | ⟨2, _⟩ => exact ⟨e2.le.trans (Nat.zero_le _), by
          show j.val < Host.clampedStart S512x64x512 S1x64x512 rfl start 2 + 512; omega⟩)]
    refine broadcastInDim_apply _ _ _ _ (ix2 r j) fun a => ?_
    match a with
    | ⟨0, _⟩ => show r.val = r.val - Host.clampedStart S512x64x512 S1x64x512 rfl start 1; omega
    | ⟨1, _⟩ => show j.val = j.val - Host.clampedStart S512x64x512 S1x64x512 rfl start 2; omega
  · rw [if_neg ht, dif_neg (fun hin => by
      have := hin ⟨0, by decide⟩
      have h3 : Host.clampedStart S512x64x512 S1x64x512 rfl start 0 ≤ t.val
        ∧ t.val < Host.clampedStart S512x64x512 S1x64x512 rfl start 0 + 1 := this
      omega)]

/-- Before trip `n` the loop carries the inputs and parameters as given, the counter `n`, the hidden state and the cell
    of `n` steps, and in rows `0 … n - 1` of the outputs the hidden states of those steps. -/
structure Holds (X : S512x64x512.Idx → EReal) (w0 : S512x1024.Idx → EReal) (b0 : S512.Idx → EReal)
    (w1 : S512x1024.Idx → EReal) (b1 : S512.Idx → EReal) (w2 : S512x1024.Idx → EReal) (b2 : S512.Idx → EReal)
    (w3 : S512x1024.Idx → EReal) (b3 : S512.Idx → EReal) (n : ℕ) (V : Valuation τ sig (Elt Ideal)) : Prop where
  x : V (Proc.devRef .tc main_v3_0) = X
  is_w0 : V (Proc.devRef .tc main_v3_1) = w0
  is_b0 : V (Proc.devRef .tc main_v3_2) = b0
  is_w1 : V (Proc.devRef .tc main_v3_3) = w1
  is_b1 : V (Proc.devRef .tc main_v3_4) = b1
  is_w2 : V (Proc.devRef .tc main_v3_5) = w2
  is_b2 : V (Proc.devRef .tc main_v3_6) = b2
  is_w3 : V (Proc.devRef .tc main_v3_7) = w3
  is_b3 : V (Proc.devRef .tc main_v3_8) = b3
  trip : V (Proc.devRef .tc main_v3_9) = constantI S_ 32 (BitVec.ofNat 32 n)
  h : rows (V (Proc.devRef .tc main_v3_10)) = (seq (ofArrays w0 b0 w1 b1 w2 b2 w3 b3) (inputs X) n).1
  c : rows (V (Proc.devRef .tc main_v3_11)) = (seq (ofArrays w0 b0 w1 b1 w2 b2 w3 b3) (inputs X) n).2
  out : ∀ (t : Fin 512) (r : Fin 64) (j : Fin 512), t.val < n →
    (V (Proc.devRef .tc main_v3_12) : S512x64x512.Idx → EReal) (ix3 t r j)
      = (seq (ofArrays w0 b0 w1 b1 w2 b2 w3 b3) (inputs X) (t.val + 1)).1 r j

section Trip

variable {X : S512x64x512.Idx → EReal} {w0 : S512x1024.Idx → EReal} {b0 : S512.Idx → EReal}
    {w1 : S512x1024.Idx → EReal} {b1 : S512.Idx → EReal} {w2 : S512x1024.Idx → EReal} {b2 : S512.Idx → EReal}
    {w3 : S512x1024.Idx → EReal} {b3 : S512.Idx → EReal} {n : ℕ} {V : Valuation τ sig (Elt Ideal)}

/-- The joined matrix of a trip: its first columns are the step's input. -/
theorem Holds.left (H : Holds X w0 b0 w1 b1 w2 b2 w3 b3 n V) (hn : n < 512) (r : Fin 64) (k : Fin 512) :
    (res_main_while0b_v5 V : S64x1024.Idx → EReal) (ix2 r (Fin.castAdd 512 k)) = inputs X n r k := by
  unfold res_main_while0b_v5
  rw [H.x]
  refine (joined_left _ _ r k).trans (sliced X _ n hn ?_ rfl rfl r k)
  show ((V (Proc.devRef .tc main_v3_9) : IVec S_ 32) (Shape.Idx.first h_S_)).toInt = n
  rw [H.trip]
  exact toInt_ofNat_of_lt (by omega)

/-- Its last columns are the hidden state. -/
theorem Holds.right (H : Holds X w0 b0 w1 b1 w2 b2 w3 b3 n V) (r : Fin 64) (k : Fin 512) :
    (res_main_while0b_v5 V : S64x1024.Idx → EReal) (ix2 r (Fin.natAdd 512 k))
      = (seq (ofArrays w0 b0 w1 b1 w2 b2 w3 b3) (inputs X) n).1 r k := by
  unfold res_main_while0b_v5
  exact (joined_right _ _ r k).trans (congrFun (congrFun H.h r) k)

/-- A gate of a trip is the network's gate at the step's input and hidden state. -/
theorem Holds.gate (H : Holds X w0 b0 w1 b1 w2 b2 w3 b3 n V) (hn : n < 512) (q : Fin 4) (r : Fin 64) (j : Fin 512) :
    pregate (res_main_while0b_v5 V) ((![w0, w1, w2, w3] : Fin 4 → S512x1024.Idx → EReal) q)
        ((![b0, b1, b2, b3] : Fin 4 → S512.Idx → EReal) q) (ix2 r j)
      = Lstm.gate (ofArrays w0 b0 w1 b1 w2 b2 w3 b3) (inputs X n)
          (seq (ofArrays w0 b0 w1 b1 w2 b2 w3 b3) (inputs X) n).1 q r j :=
  pregate_apply _ _ _ q _ (H.left hn) H.right _ _ (fun _ _ => rfl) (fun _ => rfl) r j

/-- The new cell. -/
theorem Holds.cell (H : Holds X w0 b0 w1 b1 w2 b2 w3 b3 n V) (hn : n < 512) :
    rows (res_main_while0b_v47 V) = (seq (ofArrays w0 b0 w1 b1 w2 b2 w3 b3) (inputs X) (n + 1)).2 := by
  funext r j
  have e : (res_main_while0b_v47 V : S64x512.Idx → EReal) (ix2 r j)
      = sigmoid (pregate (res_main_while0b_v5 V) (V (Proc.devRef .tc main_v3_1)) (V (Proc.devRef .tc main_v3_2))) (ix2 r j)
          * (V (Proc.devRef .tc main_v3_11) : S64x512.Idx → EReal) (ix2 r j)
        + sigmoid (pregate (res_main_while0b_v5 V) (V (Proc.devRef .tc main_v3_3)) (V (Proc.devRef .tc main_v3_4))) (ix2 r j)
          * Ideal.tanh
            (pregate (res_main_while0b_v5 V) (V (Proc.devRef .tc main_v3_5)) (V (Proc.devRef .tc main_v3_6)) (ix2 r j)) := rfl
  have hc : (V (Proc.devRef .tc main_v3_11) : S64x512.Idx → EReal) (ix2 r j) = _ := congrFun (congrFun H.c r) j
  show (res_main_while0b_v47 V : S64x512.Idx → EReal) (ix2 r j) = _
  rw [e, H.is_w0, H.is_b0, H.is_w1, H.is_b1, H.is_w2, H.is_b2, hc, sigmoid_apply, sigmoid_apply]
  have g0 := H.gate hn 0 r j
  have g1 := H.gate hn 1 r j
  have g2 := H.gate hn 2 r j
  exact congrArg₂ (· + ·) (congrArg (Ideal.logistic · * _) g0)
    (congrArg₂ (· * ·) (congrArg Ideal.logistic g1) (congrArg Ideal.tanh g2))

/-- The new hidden state. -/
theorem Holds.hidden (H : Holds X w0 b0 w1 b1 w2 b2 w3 b3 n V) (hn : n < 512) :
    rows (res_main_while0b_v49 V) = (seq (ofArrays w0 b0 w1 b1 w2 b2 w3 b3) (inputs X) (n + 1)).1 := by
  funext r j
  have e : (res_main_while0b_v49 V : S64x512.Idx → EReal) (ix2 r j)
      = sigmoid (pregate (res_main_while0b_v5 V) (V (Proc.devRef .tc main_v3_7)) (V (Proc.devRef .tc main_v3_8))) (ix2 r j)
          * Ideal.tanh ((res_main_while0b_v47 V : S64x512.Idx → EReal) (ix2 r j)) := rfl
  have hc : (res_main_while0b_v47 V : S64x512.Idx → EReal) (ix2 r j) = _ := congrFun (congrFun (H.cell hn) r) j
  show (res_main_while0b_v49 V : S64x512.Idx → EReal) (ix2 r j) = _
  rw [e, H.is_w3, H.is_b3, hc, sigmoid_apply]
  have g3 := H.gate hn 3 r j
  exact congrArg (Ideal.logistic · * _) g3

/-- One trip keeps the invariant. -/
theorem Holds.step (H : Holds X w0 b0 w1 b1 w2 b2 w3 b3 n V) (hn : n < 512) :
    Holds X w0 b0 w1 b1 w2 b2 w3 b3 (n + 1) (STEP V) where
  x := (STEP_main_v3_0 V).trans H.x
  is_w0 := (STEP_main_v3_1 V).trans H.is_w0
  is_b0 := (STEP_main_v3_2 V).trans H.is_b0
  is_w1 := (STEP_main_v3_3 V).trans H.is_w1
  is_b1 := (STEP_main_v3_4 V).trans H.is_b1
  is_w2 := (STEP_main_v3_5 V).trans H.is_w2
  is_b2 := (STEP_main_v3_6 V).trans H.is_b2
  is_w3 := (STEP_main_v3_7 V).trans H.is_w3
  is_b3 := (STEP_main_v3_8 V).trans H.is_b3
  trip := by
    rw [STEP_main_v3_9]
    unfold step_main_v3_9
    rw [H.trip]
    funext i
    exact (BitVec.ofNat_add n 1).symm
  h := by rw [STEP_main_v3_10]; exact H.hidden hn
  c := by rw [STEP_main_v3_11]; exact H.cell hn
  out := fun t r j ht => by
    rw [STEP_main_v3_12]
    refine (updated (V (Proc.devRef .tc main_v3_12)) (res_main_while0b_v49 V) _ n hn ?_ rfl rfl t r j).trans ?_
    · show ((V (Proc.devRef .tc main_v3_9) : IVec S_ 32) (Shape.Idx.first h_S_)).toInt = n
      rw [H.trip]
      exact toInt_ofNat_of_lt (by omega)
    · by_cases e : t.val = n
      · rw [if_pos e, e]
        exact congrFun (congrFun (H.hidden hn) r) j
      · rw [if_neg e]
        exact H.out t r j (by omega)

end Trip

/-- After `n` trips from a start that holds it, the invariant holds. -/
theorem Holds.iterate {X : S512x64x512.Idx → EReal} {w0 : S512x1024.Idx → EReal} {b0 : S512.Idx → EReal}
    {w1 : S512x1024.Idx → EReal} {b1 : S512.Idx → EReal} {w2 : S512x1024.Idx → EReal} {b2 : S512.Idx → EReal}
    {w3 : S512x1024.Idx → EReal} {b3 : S512.Idx → EReal} {V : Valuation τ sig (Elt Ideal)}
    (H : Holds X w0 b0 w1 b1 w2 b2 w3 b3 0 V) : ∀ n, n ≤ 512 → Holds X w0 b0 w1 b1 w2 b2 w3 b3 n (STEP^[n] V)
  | 0, _ => H
  | n + 1, hn => by
    rw [Function.iterate_succ_apply']
    exact (H.iterate n (by omega)).step (by omega)

section Entry

variable (m : (ℓ : Loc nD τ sig) → Buf (Elt Ideal) ℓ) (c : Dev nD)

set_option maxRecDepth 65536 in
/-- The loop's entry: the arguments, the counter zero, and zero hidden state and cell. -/
theorem entry : Holds (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))
    (m ((c.tc : Thread nD τ).loc main_arg8)) 0 (entryContents preI m c) where
  x := by simp only [entryContents, afterL_cons, afterL_nil]; after_reads_simp <;> rfl
  is_w0 := by simp only [entryContents, afterL_cons, afterL_nil]; after_reads_simp <;> rfl
  is_b0 := by simp only [entryContents, afterL_cons, afterL_nil]; after_reads_simp <;> rfl
  is_w1 := by simp only [entryContents, afterL_cons, afterL_nil]; after_reads_simp <;> rfl
  is_b1 := by simp only [entryContents, afterL_cons, afterL_nil]; after_reads_simp <;> rfl
  is_w2 := by simp only [entryContents, afterL_cons, afterL_nil]; after_reads_simp <;> rfl
  is_b2 := by simp only [entryContents, afterL_cons, afterL_nil]; after_reads_simp <;> rfl
  is_w3 := by simp only [entryContents, afterL_cons, afterL_nil]; after_reads_simp <;> rfl
  is_b3 := by simp only [entryContents, afterL_cons, afterL_nil]; after_reads_simp <;> rfl
  trip := by simp only [entryContents, afterL_cons, afterL_nil]; after_reads_simp <;> rfl
  h := by
    have e : entryContents preI m c (Proc.devRef .tc main_v3_10)
        = broadcastInDim S64x512 ![] bcast_S_S64x512 (constant (F := Ideal) S_ .f32 0x00000000#32) := by
      simp only [entryContents, afterL_cons, afterL_nil]; after_reads_simp <;> rfl
    rw [e]; funext r j; exact word_zero
  c := by
    have e : entryContents preI m c (Proc.devRef .tc main_v3_11)
        = broadcastInDim S64x512 ![] bcast_S_S64x512 (constant (F := Ideal) S_ .f32 0x00000000#32) := by
      simp only [entryContents, afterL_cons, afterL_nil]; after_reads_simp <;> rfl
    rw [e]; funext r j; exact word_zero
  out := fun t r j ht => absurd ht (Nat.not_lt_zero _)

end Entry

end Cert.Lstm.Ref

end
-- ==== Proof.Agree.lean ====
/-
  The kernel and the reference end with the same three arrays: each is the network's, computed from the same arguments.
-/
module

public import proofs.«01_k».proof.Proof.Results
public import proofs.«01_k».proof.Proof.Reference

@[expose] public section

noncomputable section

namespace Cert.Lstm

open Idealize.ShloMosaic hiding ix1 ix2 ix3 addf_apply mulf_apply
open Idealize.ShloMosaic.ValueIdx

/-- Arrays of states with the same rows are the same. -/
theorem rows_inj {v v' : (⟨2, ![64, 512]⟩ : Shape).Idx → EReal} (h : rows v = rows v') : v = v' := by
  funext i
  have e : i = ix2 (i 0) (i 1) := funext fun a => match a with | ⟨0, _⟩ => rfl | ⟨1, _⟩ => rfl
  rw [e]
  exact congrFun (congrFun h (i 0)) (i 1)

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The two programs' arguments are the same on device `c`. -/
def Same : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
  ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)

/-- What the reference's loop ends with, in the kernel's arguments. -/
theorem reference_holds (h : Same m m' c) :
    Ref.Holds (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)) 512
      (Cert.ReferenceIdeal.Value.STEP^[512] (StableHlo.entryContents Cert.ReferenceIdeal.Value.preI m' c)) := by
  obtain ⟨h0, h1, h2, h3, h4, h5, h6, h7, h8⟩ := h
  have e := (Ref.entry m' c).iterate 512 le_rfl
  rw [h0, h1, h2, h3, h4, h5, h6, h7, h8] at e
  exact e

/-- The outputs agree. -/
theorem outputs_agree (h : Same m m' c) :
    (Cert.ReferenceIdeal.Value.STEP^[512] (StableHlo.entryContents Cert.ReferenceIdeal.Value.preI m' c)) (Proc.devRef .tc Cert.ReferenceIdeal.main_v3_12)
      = Cert.KernelIdeal.Value.G6 m c := by
  funext i
  have e : i = ix3 (i 0) (i 1) (i 2) := funext fun a => match a with | ⟨0, _⟩ => rfl | ⟨1, _⟩ => rfl | ⟨2, _⟩ => rfl
  rw [e]
  exact ((reference_holds m m' c h).out (i 0) (i 1) (i 2) (i 0).isLt).trans (Block.outputs_apply m c (i 0) (i 1) (i 2)).symm

/-- The final hidden states agree. -/
theorem hidden_agree (h : Same m m' c) :
    (Cert.ReferenceIdeal.Value.STEP^[512] (StableHlo.entryContents Cert.ReferenceIdeal.Value.preI m' c)) (Proc.devRef .tc Cert.ReferenceIdeal.main_v3_10)
      = Cert.KernelIdeal.Value.G8 m c :=
  rows_inj ((reference_holds m m' c h).h.trans (Block.hidden_rows m c).symm)

/-- The final cells agree. -/
theorem cell_agree (h : Same m m' c) :
    (Cert.ReferenceIdeal.Value.STEP^[512] (StableHlo.entryContents Cert.ReferenceIdeal.Value.preI m' c)) (Proc.devRef .tc Cert.ReferenceIdeal.main_v3_11)
      = Cert.KernelIdeal.Value.G7 m c :=
  rows_inj ((reference_holds m m' c h).c.trans (Block.cell_rows m c).symm)

end Cert.Lstm

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Agree
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference runs, keeps its arguments and ends with every semaphore at zero. -/
theorem reference_frame : Cert.quiescent_ReferenceIdeal (hReferenceIdeal := Cert.ReferenceIdeal.Gen.facts) := fun m g _ =>
  (θ_run Cert.ReferenceIdeal.defs _ _).mono
    (fun r h => ⟨fun c => (h c).2.2.2, sem_eq_zero_of_no_sems (by decide) r.2⟩) (Cert.ReferenceIdeal.Value.run m g)

/-- The kernel and the reference, on the same arguments, end with the same outputs, final hidden state and final cell. -/
theorem values : Cert.algebraic_KernelIdeal_ReferenceIdeal (hKernelIdeal := Cert.KernelIdeal.Gen.facts)
    (hReferenceIdeal := Cert.ReferenceIdeal.Gen.facts) := fun m g m' g' _ hagree =>
  ⟨fun c => Cert.KernelIdeal.Value.G6 m c, fun c => Cert.KernelIdeal.Value.G8 m c, fun c => Cert.KernelIdeal.Value.G7 m c,
    (θ_run Cert.KernelIdeal.defs _ _).mono (fun r h c => ⟨(h c).1, (h c).2.2.1, (h c).2.1, (h c).2.2.2⟩) (Cert.KernelIdeal.Value.run m g),
    (θ_run Cert.ReferenceIdeal.defs _ _).mono
      (fun r h c => ⟨(h c).1.trans (Cert.Lstm.outputs_agree m m' c (hagree c)),
        (h c).2.1.trans (Cert.Lstm.hidden_agree m m' c (hagree c)),
        (h c).2.2.1.trans (Cert.Lstm.cell_agree m m' c (hagree c)), (h c).2.2.2⟩) (Cert.ReferenceIdeal.Value.run m' g')⟩

/-- All five claims. -/
theorem claim : Cert.Claim := ⟨Cert.Kernel.Gen.facts, Cert.KernelIdeal.Gen.facts, Cert.ReferenceIdeal.Gen.facts,
  fun m g _ => Cert.Kernel.Gen.frame m g, fun m g _ => Cert.KernelIdeal.Gen.frame m g, reference_frame, trivial, values⟩

end Cert.Proof

end
